-- ==== Defs.lean ====
def Pre_Kernel [hPre_exchange_Kernel : Cert.Pre_exchange_Kernel.Facts] (m : (ℓ : Loc Cert.Kernel.nD Cert.Kernel.τ Cert.Kernel.sig) → Buf (Elt Bits) ℓ) : Prop :=
  ∀ c : Dev Cert.Kernel.nD,
    (Cert.Pre_exchange_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_identity_Kernel [hPre_identity_Kernel : Cert.Pre_identity_Kernel.Facts] (m : (ℓ : Loc Cert.Kernel.nD Cert.Kernel.τ Cert.Kernel.sig) → Buf (Elt Bits) ℓ) : Prop :=
  ∀ c : Dev Cert.Kernel.nD,
    (Cert.Pre_identity_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchange_Kernel : Cert.Pre_exchange_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchange_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_identity_Kernel [hPre_identity_Kernel : Cert.Pre_identity_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_identity_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchange_ReferenceIdeal [hPre_exchange_ReferenceIdeal : Cert.Pre_exchange_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchange_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_identity_ReferenceIdeal [hPre_identity_ReferenceIdeal : Cert.Pre_identity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_identity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_exchange_ReferenceIdeal : Cert.Pre_exchange_ReferenceIdeal.Facts] (m : (ℓ : Loc Cert.Reference.nD Cert.Reference.τ Cert.Reference.sig) → Buf (Elt Bits) ℓ) : Prop :=
  ∀ c : Dev Cert.Reference.nD,
    (Cert.Pre_exchange_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_identity_ReferenceIdeal [hPre_identity_ReferenceIdeal : Cert.Pre_identity_ReferenceIdeal.Facts] (m : (ℓ : Loc Cert.Reference.nD Cert.Reference.τ Cert.Reference.sig) → Buf (Elt Bits) ℓ) : Prop :=
  ∀ c : Dev Cert.Reference.nD,
    (Cert.Pre_identity_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_exchange_Kernel : Cert.Pre_exchange_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_identity_Kernel [hKernel : Cert.Kernel.Facts] [hPre_identity_Kernel : Cert.Pre_identity_Kernel.Facts] : Prop :=
  ∀ (m : (ℓ : Loc Cert.Kernel.nD Cert.Kernel.τ Cert.Kernel.sig) → Buf (Elt Bits) ℓ) (g : Dev Cert.Kernel.nD → PrngReg), Pre_Kernel_identity_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_identity_Kernel [hKernelIdeal : Cert.KernelIdeal.Facts] [hPre_identity_Kernel : Cert.Pre_identity_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_identity_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchange_ReferenceIdeal [hReferenceIdeal : Cert.ReferenceIdeal.Facts] [hPre_exchange_ReferenceIdeal : Cert.Pre_exchange_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchange_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_identity_ReferenceIdeal [hReferenceIdeal : Cert.ReferenceIdeal.Facts] [hPre_identity_ReferenceIdeal : Cert.Pre_identity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_identity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_exchange_ReferenceIdeal : Cert.Pre_exchange_ReferenceIdeal.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_identity_ReferenceIdeal [hReference : Cert.Reference.Facts] [hPre_identity_ReferenceIdeal : Cert.Pre_identity_ReferenceIdeal.Facts] : Prop :=
  ∀ (m : (ℓ : Loc Cert.Reference.nD Cert.Reference.τ Cert.Reference.sig) → Buf (Elt Bits) ℓ) (g : Dev Cert.Reference.nD → PrngReg), Pre_Reference_identity_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_identity_Kernel [hKernelIdeal : Cert.KernelIdeal.Facts] [hReferenceIdeal : Cert.ReferenceIdeal.Facts] [hPre_identity_Kernel : Cert.Pre_identity_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_identity_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_exchange_Kernel : Cert.Pre_exchange_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 2048, 1024]⟩ ⟨3, ![2, 2048, 1024]⟩ (Layout.meshBlock [2, 2] ![[0], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 2048, 1024]⟩ ⟨3, ![2, 2048, 1024]⟩ (Layout.meshBlock [2, 2] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_identity_Kernel [hKernel : Cert.Kernel.Facts] [hReference : Cert.Reference.Facts] [hPre_identity_Kernel : Cert.Pre_identity_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_identity_Kernel m →
    (∀ c : Dev Cert.Kernel.nD,
      m ((c.tc : Thread Cert.Kernel.nD Cert.Kernel.τ).loc Cert.Kernel.main_arg0) = Layout.blockN ⟨3, ![1, 2048, 1024]⟩ ⟨3, ![2, 2048, 1024]⟩ (Layout.meshBlock [2, 2] ![[0], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 2048, 1024]⟩ ⟨3, ![2, 2048, 1024]⟩ (Layout.meshBlock [2, 2] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_exchange_Kernel : Cert.Pre_exchange_Kernel.Facts) (hPre_identity_Kernel : Cert.Pre_identity_Kernel.Facts) (hPre_exchange_ReferenceIdeal : Cert.Pre_exchange_ReferenceIdeal.Facts) (hPre_identity_ReferenceIdeal : Cert.Pre_identity_ReferenceIdeal.Facts),
    quiescent_Kernel (hKernel := hKernel) (hPre_exchange_Kernel := hPre_exchange_Kernel)
    ∧ quiescent_Kernel_pre_identity_Kernel (hKernel := hKernel) (hPre_identity_Kernel := hPre_identity_Kernel)
    ∧ quiescent_KernelIdeal (hKernelIdeal := hKernelIdeal) (hPre_exchange_Kernel := hPre_exchange_Kernel)
    ∧ quiescent_KernelIdeal_pre_identity_Kernel (hKernelIdeal := hKernelIdeal) (hPre_identity_Kernel := hPre_identity_Kernel)
    ∧ quiescent_ReferenceIdeal (hReferenceIdeal := hReferenceIdeal)
    ∧ quiescent_ReferenceIdeal_pre_exchange_ReferenceIdeal (hReferenceIdeal := hReferenceIdeal) (hPre_exchange_ReferenceIdeal := hPre_exchange_ReferenceIdeal)
    ∧ quiescent_ReferenceIdeal_pre_identity_ReferenceIdeal (hReferenceIdeal := hReferenceIdeal) (hPre_identity_ReferenceIdeal := hPre_identity_ReferenceIdeal)
    ∧ quiescent_Reference (hReference := hReference) (hPre_exchange_ReferenceIdeal := hPre_exchange_ReferenceIdeal)
    ∧ quiescent_Reference_pre_identity_ReferenceIdeal (hReference := hReference) (hPre_identity_ReferenceIdeal := hPre_identity_ReferenceIdeal)
    ∧ preserves_Kernel_KernelIdeal
    ∧ algebraic_KernelIdeal_ReferenceIdeal (hKernelIdeal := hKernelIdeal) (hReferenceIdeal := hReferenceIdeal) (hPre_exchange_Kernel := hPre_exchange_Kernel)
    ∧ algebraic_KernelIdeal_ReferenceIdeal_pre_identity_Kernel (hKernelIdeal := hKernelIdeal) (hReferenceIdeal := hReferenceIdeal) (hPre_identity_Kernel := hPre_identity_Kernel)
    ∧ bitexact_Kernel_Reference (hKernel := hKernel) (hReference := hReference) (hPre_exchange_Kernel := hPre_exchange_Kernel)
    ∧ bitexact_Kernel_Reference_pre_identity_Kernel (hKernel := hKernel) (hReference := hReference) (hPre_identity_Kernel := hPre_identity_Kernel)
-- ==== Pre_exchange_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_exchange_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_identity_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_identity_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Kernel.lean ====
abbrev S1x2048x1024 : Shape := ⟨3, ![1, 2048, 1024]⟩
abbrev S2 : Shape := ⟨1, ![2]⟩
abbrev S4 : Shape := ⟨1, ![4]⟩
abbrev S_ : Shape := ⟨0, ![]⟩
abbrev S1 : Shape := ⟨1, ![1]⟩
abbrev S1x512x1024 : Shape := ⟨3, ![1, 512, 1024]⟩

abbrev nBuf : Space → Nat
  | .hbm => 3
  | .vmem => 0
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .f32⟩
  | .local _ .smem, ⟨0, _⟩ => ⟨S2, .i32⟩
  | _, _ => ⟨S1x2048x1024, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_2 v2
  let c2_i32_4 : BitVec 32 := 2#32
  let v10 : BitVec 32 := Scalar.muli v9 c2_i32_4
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v12 : BitVec 32 := Scalar.muli v5 c1_i32_5
  let v13 : BitVec 32 := Scalar.addi v11 v12
  v13.toNat
def k0_dev2 (d0 : Dev nD) (v7 : BitVec 32) : Nat :=
  let c0_i32_12 : BitVec 32 := 0#32
  let c2_i32_11 : BitVec 32 := 2#32
  let v20 : BitVec 32 := Scalar.muli v7 c2_i32_11
  let v21 : BitVec 32 := Scalar.addi c0_i32_12 v20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v22 : BitVec 32 := Scalar.muli v5 c1_i32_13
  let v23 : BitVec 32 := Scalar.addi v21 v22
  v23.toNat
def k0_cond1 (d0 : Dev nD) (v7 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v14 : BitVec 1 := Scalar.cmpi .ne v7 v2
  let v15 : BitVec 32 := Scalar.extui v14
  let c0_i32_7 : BitVec 32 := 0#32
  let v16 : BitVec 1 := Scalar.cmpi .ne v15 c0_i32_7
  v16

def k0_dev3 (d0 : Dev nD) (v7 : BitVec 32) : Nat :=
  let c0_i32_23 : BitVec 32 := 0#32
  let c2_i32_22 : BitVec 32 := 2#32
  let v30 : BitVec 32 := Scalar.muli v7 c2_i32_22
  let v31 : BitVec 32 := Scalar.addi c0_i32_23 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v32 : BitVec 32 := Scalar.muli v5 c1_i32_24
  let v33 : BitVec 32 := Scalar.addi v31 v32
  v33.toNat
def k0_dev4 (d0 : Dev nD) (v7 : BitVec 32) : Nat :=
  let c0_i32_33 : BitVec 32 := 0#32
  let c2_i32_32 : BitVec 32 := 2#32
  let v40 : BitVec 32 := Scalar.muli v7 c2_i32_32
  let v41 : BitVec 32 := Scalar.addi c0_i32_33 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v42 : BitVec 32 := Scalar.muli v5 c1_i32_34
  let v43 : BitVec 32 := Scalar.addi v41 v42
  v43.toNat
def k0_dev5 (d0 : Dev nD) (v7 : BitVec 32) : Nat :=
  let c0_i32_42 : BitVec 32 := 0#32
  let c2_i32_41 : BitVec 32 := 2#32
  let v50 : BitVec 32 := Scalar.muli v7 c2_i32_41
  let v51 : BitVec 32 := Scalar.addi c0_i32_42 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v52 : BitVec 32 := Scalar.muli v5 c1_i32_43
  let v53 : BitVec 32 := Scalar.addi v51 v52
  v53.toNat

def k0_chk1 (d0 : Dev nD) (v7 : BitVec 32) : Prop :=
  (∀ (k0_h1 : k0_cond1 d0 v7 = 1#1), (k0_dev2 d0 v7) < nD) ∧
  (∀ (k0_h1 : k0_cond1 d0 v7 = 1#1), (k0_dev3 d0 v7) < nD) ∧
  (∀ (k0_h1 : k0_cond1 d0 v7 = 1#1), (k0_dev4 d0 v7) < nD) ∧
  (∀ (k0_h1 : k0_cond1 d0 v7 = 1#1), (k0_dev5 d0 v7) < nD)
theorem k0_dev2_lt : ∀ (d0 : Dev nD) (v7 : BitVec 32) (k0_hw1 : k0_chk1 d0 v7), ∀ (k0_h1 : k0_cond1 d0 v7 = 1#1), (k0_dev2 d0 v7) < nD := fun d0 v7 k0_hw1 k0_h1 => k0_hw1.1 k0_h1
theorem k0_dev3_lt : ∀ (d0 : Dev nD) (v7 : BitVec 32) (k0_hw1 : k0_chk1 d0 v7), ∀ (k0_h1 : k0_cond1 d0 v7 = 1#1), (k0_dev3 d0 v7) < nD := fun d0 v7 k0_hw1 k0_h1 => k0_hw1.2.1 k0_h1
theorem k0_dev4_lt : ∀ (d0 : Dev nD) (v7 : BitVec 32) (k0_hw1 : k0_chk1 d0 v7), ∀ (k0_h1 : k0_cond1 d0 v7 = 1#1), (k0_dev4 d0 v7) < nD := fun d0 v7 k0_hw1 k0_h1 => k0_hw1.2.2.1 k0_h1
theorem k0_dev5_lt : ∀ (d0 : Dev nD) (v7 : BitVec 32) (k0_hw1 : k0_chk1 d0 v7), ∀ (k0_h1 : k0_cond1 d0 v7 = 1#1), (k0_dev5 d0 v7) < nD := fun d0 v7 k0_hw1 k0_h1 => k0_hw1.2.2.2 k0_h1

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Setup.lean ====
/-
Vocabulary of the exchange kernel's proof, over any float values: the mesh's swap, the chunks a device's arrays are
moved in, the semaphore cells, what each cell's single round hands over, the credit owed at launch and the levels.
One Boolean `e` says which of the two permutations the table holds: `true` when the two halves change places, `false`
when each stays where it is.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, and the kernel's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (e : Bool) (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The mesh: device `c` sits at `(c / 2, c % 2)`; its partner has the other first coordinate -/

set_option backward.proofsInPublic true in
def peer (c : Dev nD) : Dev nD := ⟨(c.val + 2) % 4, Nat.mod_lt _ (by decide)⟩

theorem peer_peer (c : Dev nD) : peer (peer c) = c := by revert c; decide
theorem peer_dev1 (c : Dev nD) : (⟨k0_dev1 c, k0_dev1_lt c⟩ : Dev nD) = peer c := by
  apply Fin.ext; show k0_dev1 c = (c.val + 2) % 4; rw [k0_dev1_eq]; have : c.val < 4 := c.isLt; omega

/-- The swap as a bijection of the devices. -/
def swap : Dev nD ≃ Dev nD := ⟨peer, peer, peer_peer, peer_peer⟩

/-- The device whose `x` the result of device `c` holds. -/
def src (c : Dev nD) : Dev nD := if e then peer c else c

/-! ## The table's word that device `c` reads -/

/-- Entry `c / 2` of a table of two. -/
def slot (c : Dev nD) : S2.Idx := fun a => ⟨c.val / 2, by have : c.val < 4 := c.isLt; fin_cases a; show c.val / 2 < 2; omega⟩

/-- Device `c`'s table. -/
abbrev tblOf (c : Dev nD) : IVec S2 32 := m ((c : Thread nD τ).loc main_arg1)

/-- What the proof asks of the launch memory: each device's table sends its own group to the group of `src`. -/
def TableOK : Prop := ∀ c : Dev nD, tblOf m c (slot c) = BitVec.ofNat 32 ((src e c).val / 2)

/-- The table as staged; -/
def tstg (c : Dev nD) : (cc0_stg0_0 : Ref sig .tc).ty.Contents (Elt F) :=
  (win0_0.blk (0 : Fin 1)).view.read (Elt F) ((s₀ m ρ).mem ((c : Thread nD τ).loc main_arg1))

abbrev tblR (c : Dev nD) : Rect S2 := Rect.unit (s := S2) (k0_off1 c) S1.size (k0_off1_inb c)
/-- the word the body loads of it. -/
abbrev word (c : Dev nD) (ts : (cc0_stg0_0 : Ref sig .tc).ty.Contents (Elt F)) : BitVec 32 :=
  ((Memref.whole cc0_stg0_0).access (tblR c) : View sig .tc _ _ _).read (Elt F) ts (Shape.Idx.first (s := S1) (numel1_S1.symm ▸ Nat.one_pos))

omit [FloatOps F] in
theorem word_tstg (c : Dev nD) : word c (tstg m ρ c) = tblOf m c (slot c) := by
  show m ((c : Thread nD τ).loc main_arg1) _ = _
  refine congrArg _ (funext fun a => Fin.ext ?_)
  fin_cases a; fin_cases c <;> rfl

variable {e m} in
/-- Under `TableOK` the word passes the body's check: it names devices of the mesh; -/
theorem TableOK.chk (h : TableOK e m) (c : Dev nD) : k0_chk1 c (word c (tstg m ρ c)) := by
  rw [word_tstg, h c]; clear h; revert c e; decide
variable {e m} in
/-- the body's first branch is taken exactly when the halves change places, -/
theorem TableOK.far (h : TableOK true m) (c : Dev nD) : k0_cond1 c (word c (tstg m ρ c)) = 1#1 := by
  rw [word_tstg, h c]; clear h; revert c; decide
variable {e m} in
theorem TableOK.notFar (h : TableOK false m) (c : Dev nD) : ¬ k0_cond1 c (word c (tstg m ρ c)) = 1#1 := by
  rw [word_tstg, h c]; clear h; revert c; decide

/-! ## The arrays and their four chunks -/

abbrev xM : Memref sig .tc .hbm S1x2048x1024 .f32 := Memref.whole main_arg0
abbrev oM : Memref sig .tc .hbm S1x2048x1024 .f32 := Memref.whole main_v1

/-- Chunk `k`: rows `512 k` to `512 k + 511`. -/
abbrev rowOff (k : Fin 4) : Fin 3 → ℕ := ![0, 512 * k.val, 0]
theorem row_inb (k : Fin 4) : ∀ a, rowOff k a + S1x512x1024.size a ≤ S1x2048x1024.size a := by revert k; decide
abbrev rowR (k : Fin 4) : Rect S1x2048x1024 := Rect.unit (s := S1x2048x1024) (rowOff k) S1x512x1024.size (row_inb k)
abbrev xC (k : Fin 4) : Memref sig .tc .hbm S1x512x1024 .f32 := xM.slice (rowR k) (fun _ => rfl)
abbrev oC (k : Fin 4) : Memref sig .tc .hbm S1x512x1024 .f32 := oM.slice (rowR k) (fun _ => rfl)

/-- The credit of one chunk's transfer, and of the whole array's. -/
abbrev NC : ℕ := (oC 0).view.dmaCredit
abbrev NW : ℕ := (oM : Memref sig .tc .hbm S1x2048x1024 .f32).view.dmaCredit
theorem NC_pos : 0 < NC := View.dmaCredit_pos _ (by decide)
theorem NW_pos : 0 < NW := View.dmaCredit_pos _ (by decide)

theorem rowR_disjoint (k k' : Fin 4) (h : k ≠ k') : Disjoint (rowR k).set (rowR k').set :=
  Ring.lead_disjoint (s := S1x2048x1024) 1 512 rowOff S1x512x1024.size row_inb (fun _ => rfl) rfl k k' h
theorem rowR_cover : Finset.univ.biUnion (fun k => (rowR k).set) = Finset.univ :=
  Ring.lead_cover (s := S1x2048x1024) 1 512 rowOff S1x512x1024.size row_inb (fun _ => rfl)
    (by decide) rfl (by decide) rfl

/-- What device `c`'s `x` holds at launch; what its result holds at the end: the `x` of `src`. -/
def X (c : Dev nD) : Buf (Elt F) ((c : Thread nD τ).loc main_arg0) := m ((c : Thread nD τ).loc main_arg0)
def res (c : Dev nD) : Buf (Elt F) ((c : Thread nD τ).loc main_v1) := X m (src e c)

/-- Chunk `k` of device `c`'s `x`, and of its result buffer. -/
def xPts (c : Dev nD) (k : Fin 4) : sProp 𝕄 := (xC k).view.loc (c : Thread nD τ) ↦[(xC k).view.set]{fullShare} X m c
def oPts (c : Dev nD) (k : Fin 4) (f : Buf (Elt F) ((c : Thread nD τ).loc main_v1)) : sProp 𝕄 :=
  (oC k).view.loc (c : Thread nD τ) ↦[(oC k).view.set]{fullShare} f

omit [FloatOps F] in
instance xPts_storable (c : Dev nD) (k) : BI.Storable (upEmb : UEmb _ 𝕄) (xPts (F := F) m c k) := by unfold xPts; infer_instance
omit [FloatOps F] in
instance oPts_storable (c : Dev nD) (k f) : BI.Storable (upEmb : UEmb _ 𝕄) (oPts (F := F) c k f) := by unfold oPts; infer_instance

theorem xC_set (k : Fin 4) : (xC k).view.set = (rowR k).set := by
  show ((View.whole main_arg0).slice (rowR k)).set = _
  exact View.set_slice_whole _ _
theorem oC_set (k : Fin 4) : (oC k).view.set = (rowR k).set := by
  show ((View.whole main_v1).slice (rowR k)).set = _
  exact View.set_slice_whole _ _

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- `x` whole is `x` in four chunks; -/
theorem x_chunks (c : Dev nD) : (((c : Thread nD τ).loc main_arg0) ↦{fullShare} X m c : sProp 𝕄) = bigSep Finset.univ (xPts m c) := by
  rw [Ring.pointsTo_blocks (fun k : Fin 4 => (rowR k).set) rowR_disjoint rowR_cover]
  exact bigSep_congr fun k _ => by unfold xPts; rw [xC_set]
omit [FloatOps F] in
/-- the result buffer likewise, whatever it holds. -/
theorem o_chunks (c : Dev nD) (f : Buf (Elt F) ((c : Thread nD τ).loc main_v1)) :
    (((c : Thread nD τ).loc main_v1) ↦{fullShare} f : sProp 𝕄) = bigSep Finset.univ fun k => oPts c k f := by
  rw [Ring.pointsTo_blocks (fun k : Fin 4 => (rowR k).set) rowR_disjoint rowR_cover]
  exact bigSep_congr fun k _ => by unfold oPts; rw [oC_set]

omit [FloatOps F] in
/-- Chunk `k` of a device's result buffer, after chunk `k` of some `x` has been written over it, holds that `x`. -/
theorem landed (c d : Dev nD) (k : Fin 4) (f : Buf (Elt F) ((c : Thread nD τ).loc main_v1)) (g : Buf (Elt F) ((d : Thread nD τ).loc main_arg0)) :
    ((oC k).view.loc (c : Thread nD τ) ↦[(oC k).view.set]{fullShare} (oC k).view.write (Elt F) f ((xC k).view.read (Elt F) g) Finset.univ : sProp 𝕄)
      = oPts c k g := by
  unfold oPts
  refine pointsTo_congr fun i hi => ?_
  obtain ⟨j, -, rfl⟩ := Finset.mem_map.mp hi
  exact View.write_emb_of_mem _ _ (Finset.mem_univ j)

/-! ## The semaphore cells -/

/-- The runtime's barrier semaphore; the four send, the four receive and the one copy semaphore. -/
abbrev barS : Sem sig := (SemArray.scalar (sig.barrier 0 rfl) : Sems sig S_).sem
theorem sem_inb (k : Fin 4) : ∀ a, (![k.val] : Fin 1 → ℕ) a + S1.size a ≤ S4.size a := by revert k; decide
abbrev sendS (k : Fin 4) : DmaSem sig := (((cc0_scratch0 : DmaSems sig S4).slice (Rect.unit (s := S4) ![k.val] S1.size (sem_inb k))).squeeze S_ squeezes_S1_S_).sem
abbrev recvS (k : Fin 4) : DmaSem sig := (((cc0_scratch1 : DmaSems sig S4).slice (Rect.unit (s := S4) ![k.val] S1.size (sem_inb k))).squeeze S_ squeezes_S1_S_).sem
abbrev copyS : DmaSem sig := (cc0_scratch2 : DmaSems sig S_).sem

/-- A device's ten cells, numbered: the barrier, the sends, the receives, the copy. -/
def csem (j : Fin 10) : SemLoc sig := if j = 0 then .reg barS else .dma j
abbrev jS (k : Fin 4) : Fin 10 := ⟨1 + k.val, by omega⟩
abbrev jR (k : Fin 4) : Fin 10 := ⟨5 + k.val, by omega⟩
theorem csem_bar : csem 0 = .reg barS := rfl
theorem csem_send (k : Fin 4) : csem (jS k) = .dma (sendS k) := by fin_cases k <;> rfl
theorem csem_recv (k : Fin 4) : csem (jR k) = .dma (recvS k) := by fin_cases k <;> rfl
theorem csem_copy : csem 9 = .dma copyS := rfl

abbrev kcell (ck : Dev nD × Fin 10) : GSem nD τ sig := ((ck.1 : Thread nD τ), csem ck.2)
abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))
abbrev copyCell (c : Dev nD) : GSem nD τ sig := ((c : Thread nD τ), .dma copyS)

/-- What a semaphore is for. -/
inductive Role where
  | bar
  | send (k : Fin 4)
  | recv (k : Fin 4)
  | copy
  | none
deriving DecidableEq

def role : SemLoc sig → Role
  | .reg _ => .bar
  | .dma ⟨0, _⟩ => .none
  | .dma ⟨1, _⟩ => .send 0
  | .dma ⟨2, _⟩ => .send 1
  | .dma ⟨3, _⟩ => .send 2
  | .dma ⟨4, _⟩ => .send 3
  | .dma ⟨5, _⟩ => .recv 0
  | .dma ⟨6, _⟩ => .recv 1
  | .dma ⟨7, _⟩ => .recv 2
  | .dma ⟨8, _⟩ => .recv 3
  | .dma ⟨9, _⟩ => .copy
  | .dma ⟨_ + 10, _⟩ => .none

theorem role_bar : role (.reg barS) = .bar := rfl
theorem role_send (k : Fin 4) : role (.dma (sendS k)) = .send k := by fin_cases k <;> rfl
theorem role_recv (k : Fin 4) : role (.dma (recvS k)) = .recv k := by fin_cases k <;> rfl
theorem role_copy : role (.dma copyS) = .copy := rfl

/-! ## The schedule -/

/-- What the partner's signal hands device `c` when the halves change places: the partner's result buffer, in chunks. -/
def barPay (c : Dev nD) : sProp 𝕄 := if e then iprop(∃ f, bigSep Finset.univ fun k => oPts (peer c) k f) else iprop(emp)
/-- What completes on the copy semaphore: `x` back, and the result holding it. -/
def copyPay (c : Dev nD) : sProp 𝕄 :=
  iprop((((c : Thread nD τ).loc main_v1) ↦{fullShare} res e m c) ∗ (((c : Thread nD τ).loc main_arg0) ↦{fullShare} X m c))

def pay (c : Dev nD) : Role → sProp 𝕄
  | .bar => barPay (F := F) e c
  | .send k => xPts m c k
  | .recv k => oPts c k (res e m c)
  | .copy => copyPay e m c
  | .none => iprop(emp)

/-- Which semaphores take part: the barrier always, the sends and receives when the halves change places, the copy when
    they do not. -/
def inUse : Role → Bool
  | .bar => true
  | .send _ => e
  | .recv _ => e
  | .copy => !e
  | .none => false

def units : Role → ℕ
  | .bar => 1
  | .copy => NW
  | _ => NC

theorem units_pos (r : Role) : 0 < units r := by cases r <;> first | exact Nat.one_pos | exact NW_pos | exact NC_pos

/-- One round, round 0; a cell in use has one duty there. -/
def rd : Rounds.Schedule (GSem nD τ sig) Unit 𝕄 where
  duties g r := if r = 0 ∧ g.1.2 = .tc ∧ inUse e (role g.2) = true then {()} else ∅
  unitless _ := False
  amount g _ _ := units (role g.2)
  payload g _ _ := pay e m g.1.1 (role g.2)
  amount_pos g _ _ _ := units_pos _

instance rd_payload_storable (g : GSem nD τ sig) (r : ℕ) (d : Unit) :
    BI.Storable (upEmb : UEmb _ 𝕄) ((rd (F := F) e m).payload g r d) := by
  show BI.Storable upEmb (pay e m g.1.1 (role g.2))
  cases role g.2 <;> unfold pay
  · unfold barPay; cases e
    · rw [if_neg Bool.false_ne_true]; infer_instance
    · rw [if_pos rfl]; infer_instance
  · infer_instance
  · infer_instance
  · unfold copyPay; infer_instance
  · infer_instance

section Sched
variable (c : Dev nD) (sm : SemLoc sig)

omit [FloatOps F] in
theorem duties_of {sm : SemLoc sig} (h : inUse e (role sm) = true) : (rd (F := F) e m).duties ((c : Thread nD τ), sm) 0 = {()} :=
  if_pos ⟨rfl, rfl, h⟩
omit [FloatOps F] in
theorem duties_not {sm : SemLoc sig} (h : inUse e (role sm) = false) : ∀ r, 0 ≤ r → (rd (F := F) e m).duties ((c : Thread nD τ), sm) r = ∅ :=
  fun r _ => if_neg fun h' => Bool.false_ne_true (h.symm.trans h'.2.2)
omit [FloatOps F] in
theorem duties_later (g : GSem nD τ sig) : ∀ r, 0 + 1 ≤ r → (rd (F := F) e m).duties g r = ∅ := fun r hr => if_neg fun h => by omega
omit [FloatOps F] in
theorem expect_of {sm : SemLoc sig} (h : inUse e (role sm) = true) : (rd (F := F) e m).expect ((c : Thread nD τ), sm) 0 = units (role sm) := by
  unfold Schedule.expect Schedule.amountOf; rw [duties_of e m c h, Finset.sum_singleton]; rfl
omit [FloatOps F] in
theorem amount_of (r : ℕ) (d : Unit) {sm : SemLoc sig} {R : Role} (h : role sm = R) : (rd (F := F) e m).amount ((c : Thread nD τ), sm) r d = units R :=
  congrArg units h
omit [FloatOps F] in
theorem payload_of (r : ℕ) (d : Unit) {sm : SemLoc sig} {R : Role} (h : role sm = R) : (rd (F := F) e m).payload ((c : Thread nD τ), sm) r d = pay e m c R :=
  congrArg (pay e m c) h
omit [FloatOps F] in
/-- All that a cell in use hands over in its round. -/
theorem rest_of {sm : SemLoc sig} (h : inUse e (role sm) = true) :
    bigSep ((rd (F := F) e m).duties ((c : Thread nD τ), sm) 0 \ ∅) (fun d => (rd (F := F) e m).payload ((c : Thread nD τ), sm) 0 d) = pay e m c (role sm) := by
  rw [Finset.sdiff_empty, duties_of e m c h, bigSep_singleton]; rfl

end Sched

/-! ## What each device owes at launch; the levels -/

/-- The credit of its partner's receive cell `k`. -/
abbrev owedR (c : Dev nD) (k : Fin 4) : CellTallies nD τ sig Unit := tallyAt (recvCell (peer c) k) () NC
/-- What is still owed before the transfer of chunk `k` (chunks are sent in order), and after the last; -/
def left (c : Dev nD) : Fin 5 → CellTallies nD τ sig Unit
  | 0 => owedR c 3 + owedR c 2 + owedR c 1 + owedR c 0
  | 1 => owedR c 3 + owedR c 2 + owedR c 1
  | 2 => owedR c 3 + owedR c 2
  | 3 => owedR c 3
  | 4 => 0
theorem left_succ (c : Dev nD) (k : Fin 4) : left c k.castSucc = left c k.succ + owedR c k := by
  fin_cases k <;> first | rfl | exact (zero_add _).symm
/-- after the signal, by mode; at launch, with the partner's barrier unit on top. -/
def O₁ (c : Dev nD) : CellTallies nD τ sig Unit := if e then left c 0 else 0
def O₀ (c : Dev nD) : CellTallies nD τ sig Unit := O₁ e c + tallyAt (barCell (peer c)) () 1

def L (g : GSem nD τ sig) : Finset Unit := if g.1.2 = .tc then {()} else ∅
/-- Barrier cells at 1, receive cells at 2, every other at 0. -/
def lvR : Role → ℕ
  | .bar => 1
  | .recv _ => 2
  | _ => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem left_apply (c : Dev nD) (g : GSem nD τ sig) (u : Unit) : left c 0 g u
    = (if g = recvCell (peer c) 3 then NC else 0) + (if g = recvCell (peer c) 2 then NC else 0) + (if g = recvCell (peer c) 1 then NC else 0)
      + (if g = recvCell (peer c) 0 then NC else 0) := by
  unfold left owedR
  simp only [Pi.add_apply, Finsupp.add_apply, tallyAt_apply, and_true, Subsingleton.elim u ()]

theorem left_pos {c : Dev nD} {g : GSem nD τ sig} {u : Unit} (h : 0 < left c 0 g u) : ∃ k, g = recvCell (peer c) k := by
  by_contra hn
  rw [left_apply, if_neg fun h => hn ⟨_, h⟩, if_neg fun h => hn ⟨_, h⟩, if_neg fun h => hn ⟨_, h⟩, if_neg fun h => hn ⟨_, h⟩] at h
  exact Nat.lt_irrefl 0 h

theorem O₁_pos {c : Dev nD} {g : GSem nD τ sig} {u : Unit} (h : 0 < O₁ e c g u) : ∃ k, g = recvCell (peer c) k := by
  cases e
  · exact absurd h (Nat.lt_irrefl 0)
  · exact left_pos h

theorem O₀_pos {c : Dev nD} {g : GSem nD τ sig} {u : Unit} (h : 0 < O₀ e c g u) : (∃ k, g = recvCell (peer c) k) ∨ g = barCell (peer c) := by
  unfold O₀ at h
  rw [Pi.add_apply, Finsupp.add_apply, tallyAt_apply] at h
  by_cases hb : g = barCell (peer c)
  · exact .inr hb
  · rw [if_neg fun h => hb h.1] at h; exact .inl (O₁_pos e h)

omit [FloatOps F] in
/-- A wait on a semaphore of level 0 is allowed whatever a device may owe. -/
theorem mayWait_low (c : Dev nD) (sm : SemLoc sig) (hq : lvR (role sm) = 0) (O : CellTallies nD τ sig Unit) (hO : O = O₀ e c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos e hg with ⟨k, rfl⟩ | rfl <;> exact Finset.mem_singleton_self _)
      (fun p hp => by rw [Finset.mem_singleton.mp hp]; show lvR (role sm) ≤ 0; rw [hq])
      (fun g u hg => by
        rcases O₀_pos e hg with ⟨k, rfl⟩ | rfl
        · show 0 < lvR (role (.dma (recvS k))); rw [role_recv]; exact Nat.two_pos
        · exact Nat.one_pos)
  · rw [MayWait_zero]; iintro -; iempintro

omit [FloatOps F] in
/-- The wait on the own barrier is allowed while only receive credit is owed. -/
theorem mayWait_bar (c : Dev nD) : (levAts L lv : sProp 𝕄) ⊢ MayWait (c : Thread nD τ) (.reg barS) () (O₁ e c) :=
  MayOwe.of_cut (L := L) (lev := lv) 1 (fun p hp => by rw [Finset.mem_singleton.mp hp, L_tc]; exact Finset.mem_singleton_self _)
    (fun g u hg => by obtain ⟨k, rfl⟩ := O₁_pos e hg; exact Finset.mem_singleton_self _)
    (fun p hp => by rw [Finset.mem_singleton.mp hp]; exact le_refl 1)
    (fun g u hg => by obtain ⟨k, rfl⟩ := O₁_pos e hg; show 1 < lvR (role (.dma (recvS k))); rw [role_recv]; exact Nat.one_lt_two)

end Cert.SwapProof

end
-- ==== Proof.Steps.lean ====
/-
The exchange kernel's steps: what a device's body starts from and ends with, and one rule per kind of step — the signal
to the partner, the barrier wait, sending a chunk, waiting on a cell in use (which also closes it), copying the whole
array, closing a cell not in use.
-/
module

public import proofs.«01_k».proof.Proof.Setup

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (e : Bool) (m : (ℓ : Loc nD τ sig) → Buf (Elt F) ℓ) (ρ : Dev nD → PrngReg)

abbrev 𝒱₀ : Variants := Variants.none

/-! ## What every device knows of every cell -/

/-- A cell's invariant is in place, and its round 0 is open. -/
def known (g : GSem nD τ sig) : sProp 𝕄 := iprop((∃ κ : ℕ, cellInv ER (rd e m) κ g) ∗ reached ER g 0)
instance known_persistent (g) : BI.Persistent (known (F := F) e m g) := by unfold known; infer_instance

/-- Every cell of every device. -/
def book : sProp 𝕄 := bigSep Finset.univ fun ck : Dev nD × Fin 10 => known e m (kcell ck)
instance book_persistent : BI.Persistent (book (F := F) e m) := by unfold book; infer_instance

omit [FloatOps F] in
theorem book_at {c : Dev nD} {j : Fin 10} {sm : SemLoc sig} (h : csem j = sm) : book (F := F) e m ⊢ known e m ((c : Thread nD τ), sm) := by
  subst h; exact bigSep_elim (Finset.mem_univ (c, j))

omit [FloatOps F] in
/-- A statement about each of a device's ten cells, cell by cell. -/
theorem cells_split (Φ : GSem nD τ sig → sProp 𝕄) (c : Dev nD) : (bigSep Finset.univ fun j : Fin 10 => Φ (kcell (c, j)))
    = iprop(Φ (barCell c) ∗ (Φ (sendCell c 0) ∗ Φ (sendCell c 1) ∗ Φ (sendCell c 2) ∗ Φ (sendCell c 3))
        ∗ (Φ (recvCell c 0) ∗ Φ (recvCell c 1) ∗ Φ (recvCell c 2) ∗ Φ (recvCell c 3)) ∗ Φ (copyCell c)) := by
  rw [bigSep_univ_eq_bigSepL [0, 1, 2, 3, 4, 5, 6, 7, 8, 9] (by decide) (by decide)]
  refine BI.Entails.antisymm ?_ ?_
  · show iprop(Φ (barCell c) ∗ Φ (sendCell c 0) ∗ Φ (sendCell c 1) ∗ Φ (sendCell c 2) ∗ Φ (sendCell c 3)
      ∗ Φ (recvCell c 0) ∗ Φ (recvCell c 1) ∗ Φ (recvCell c 2) ∗ Φ (recvCell c 3) ∗ Φ (copyCell c)) ⊢ _
    iintro ⟨H0, H1, H2, H3, H4, H5, H6, H7, H8, H9⟩
    isplitl [H0]; · iexact H0
    isplitl [H1 H2 H3 H4]
    · isplitl [H1]; · iexact H1
      isplitl [H2]; · iexact H2
      isplitl [H3] <;> iassumption
    isplitl [H5 H6 H7 H8]
    · isplitl [H5]; · iexact H5
      isplitl [H6]; · iexact H6
      isplitl [H7] <;> iassumption
    iexact H9
  · show _ ⊢ iprop(Φ (barCell c) ∗ Φ (sendCell c 0) ∗ Φ (sendCell c 1) ∗ Φ (sendCell c 2) ∗ Φ (sendCell c 3)
      ∗ Φ (recvCell c 0) ∗ Φ (recvCell c 1) ∗ Φ (recvCell c 2) ∗ Φ (recvCell c 3) ∗ Φ (copyCell c))
    iintro ⟨H0, ⟨H1, H2, H3, H4⟩, ⟨H5, H6, H7, H8⟩, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption

/-! ## What a device starts from and ends with -/

/-- Where it stands in each of its cells; the right to pay each cell it pays — its partner's barrier and receive cells,
    its own send and copy cells; -/
def places (c : Dev nD) : sProp 𝕄 := bigSep Finset.univ fun j : Fin 10 => atPos ER (kcell (c, j)) 0 ∅ 0
def rights (c : Dev nD) : sProp 𝕄 :=
  iprop(dutyTok ER (barCell (peer c)) 0 ()
    ∗ (dutyTok ER (sendCell c 0) 0 () ∗ dutyTok ER (sendCell c 1) 0 () ∗ dutyTok ER (sendCell c 2) 0 () ∗ dutyTok ER (sendCell c 3) 0 ())
    ∗ (dutyTok ER (recvCell (peer c) 0) 0 () ∗ dutyTok ER (recvCell (peer c) 1) 0 () ∗ dutyTok ER (recvCell (peer c) 2) 0 ()
      ∗ dutyTok ER (recvCell (peer c) 3) 0 ())
    ∗ dutyTok ER (copyCell c) 0 ())
/-- what others will pay its receive cells: four chunks when the halves change places, else nothing. -/
def dueChunks (c : Dev nD) : sProp 𝕄 :=
  if e then iprop(cred (tallyAt (recvCell c 0) () NC) ∗ cred (tallyAt (recvCell c 1) () NC) ∗ cred (tallyAt (recvCell c 2) () NC)
        ∗ cred (tallyAt (recvCell c 3) () NC)) else iprop(emp)

omit [FloatOps F] in
theorem dueChunks_exchange (c : Dev nD) : dueChunks (F := F) true c = iprop(cred (tallyAt (recvCell c 0) () NC)
    ∗ cred (tallyAt (recvCell c 1) () NC) ∗ cred (tallyAt (recvCell c 2) () NC) ∗ cred (tallyAt (recvCell c 3) () NC)) := by
  unfold dueChunks; rw [if_pos rfl]
omit [FloatOps F] in
theorem places_split (c : Dev nD) : places (F := F) c
    = iprop(atPos ER (barCell c) 0 ∅ 0
        ∗ (atPos ER (sendCell c 0) 0 ∅ 0 ∗ atPos ER (sendCell c 1) 0 ∅ 0 ∗ atPos ER (sendCell c 2) 0 ∅ 0 ∗ atPos ER (sendCell c 3) 0 ∅ 0)
        ∗ (atPos ER (recvCell c 0) 0 ∅ 0 ∗ atPos ER (recvCell c 1) 0 ∅ 0 ∗ atPos ER (recvCell c 2) 0 ∅ 0 ∗ atPos ER (recvCell c 3) 0 ∅ 0)
        ∗ atPos ER (copyCell c) 0 ∅ 0) := cells_split (fun g => atPos ER g 0 ∅ 0) c

/-- All of it, with its `x` and its result buffer. -/
def start (c : Dev nD) : sProp 𝕄 :=
  iprop((book e m ∗ places c ∗ rights c) ∗ cred (tallyAt (barCell c) () 1) ∗ dueChunks e c ∗ levAts L lv
    ∗ (((c : Thread nD τ).loc main_arg0) ↦{fullShare} X m c) ∗ ∃ f, (((c : Thread nD τ).loc main_v1) ↦{fullShare} f))

/-- At the end: `x` as it was, the result holding the `x` of `src`, every semaphore at zero. -/
def finish (c : Dev nD) : sProp 𝕄 :=
  iprop((((c : Thread nD τ).loc main_arg0) ↦{fullShare} X m c) ∗ (((c : Thread nD τ).loc main_v1) ↦{fullShare} res e m c)
    ∗ bigSep Finset.univ fun j : Fin 10 => semVal (kcell (c, j)) 0)

/-- Owing `O`, whatever has been waited for. -/
def owing (c : Dev nD) (O : CellTallies nD τ sig Unit) : sProp 𝕄 := iprop(∃ W : Waits sig Unit, owes (c : Thread nD τ) O W)

/-! ## The rules -/

omit [FloatOps F] in
/-- A cell not in use closes where it stands. -/
theorem close_idle {c : Dev nD} {sm : SemLoc sig} (h : inUse e (role sm) = false) :
    iprop(known e m ((c : Thread nD τ), sm) ∗ atPos ER ((c : Thread nD τ), sm) 0 ∅ 0) ⊢ (|={Set.univ}=> semVal ((c : Thread nD τ), sm) 0 : sProp 𝕄) := by
  unfold known
  iintro ⟨⟨⟨%κ, HI⟩, -⟩, Hat⟩
  iapply (Rounds.cell_close ER (rd e m) (Set.mem_univ κ) (fun h => h) (R := 0) (duties_not e m c h))
  isplitl [HI] <;> iassumption

omit [FloatOps F] in
theorem close_done {c : Dev nD} {sm : SemLoc sig} {κ : ℕ} :
    iprop(cellInv ER (rd e m) κ ((c : Thread nD τ), sm) ∗ atPos ER ((c : Thread nD τ), sm) (0 + 1) ∅ 0) ⊢ (|={Set.univ}=> semVal ((c : Thread nD τ), sm) 0 : sProp 𝕄) :=
  Rounds.cell_close ER (rd e m) (Set.mem_univ κ) (fun h => h) (R := 0 + 1) (duties_later e m _)

/-- The signal to the partner's barrier: it pays the one unit owed there and hands over what the partner waits for. -/
theorem step_signal (c n : Dev nD) (hn : n = peer c) {α : Type} {Q : α → sProp 𝕄} {k : PUnit → Prog (TpuEff nD τ sig (Elt F) Λ₀ .tc) α} :
    iprop(book e m ∗ owing c (O₀ e c) ∗ dutyTok ER (barCell (peer c)) 0 () ∗ barPay (F := F) e (peer c))
      ⊢ iprop((owing c (O₁ e c) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toNat) k) Q) := by
  subst hn
  unfold owing
  iintro ⟨#HB, ⟨%W, HO⟩, Ht, Hp⟩ Hk
  ihave HK := (book_at e m (c := peer c) csem_bar) $$ HB
  unfold known
  icases HK with ⟨⟨%κ, #HI⟩, #HR⟩
  iapply (Rounds.wp_signal 𝒱₀ ER (rd e m) (c : Thread nD τ) none (dst := (peer c : Thread nD τ)) (κ := κ)
      (d := ()) (by rw [duties_of e m _ (by rw [role_bar]; rfl)]; exact Finset.mem_singleton_self _) ((amount_of e m (peer c) 0 () role_bar).trans (by decide)) () (O₁ e c) rfl)
    $$ [HO Ht Hp]
  · isplitr; · iexact HI
    isplitl [HO]; · iexact HO
    isplitl [Ht]; · iexact Ht
    isplitl [Hp]; · rw [payload_of e m (peer c) 0 () role_bar]; unfold pay; iexact Hp
    iexact HR
  iintro HO
  iapply Hk
  iexists W; iexact HO

/-- The wait on the own barrier: it takes what the partner handed over; the barrier cell closes. -/
theorem step_barrier (c : Dev nD) {α : Type} {Q : α → sProp 𝕄} {k : PUnit → Prog (TpuEff nD τ sig (Elt F) Λ₀ .tc) α} :
    iprop(book e m ∗ levAts L lv ∗ cred (tallyAt (barCell c) () 1) ∗ owing c (O₁ e c) ∗ atPos ER (barCell c) 0 ∅ 0)
      ⊢ iprop(((owing c (O₁ e c) ∗ barPay (F := F) e c ∗ semVal (barCell c) 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (1#32 : BitVec 32).toNat) k) Q) := by
  unfold owing
  iintro ⟨#HB, #Hl, Hc, ⟨%W, HO⟩, Hat⟩ Hk
  ihave HK := (book_at e m (c := c) csem_bar) $$ HB
  unfold known
  icases HK with ⟨⟨%κ, #HI⟩, #HR⟩
  iapply (Rounds.wp_wait_rest_token 𝒱₀ ER (rd e m) (c : Thread nD τ) none (κ := κ)
      (wpE_semWait_eq 𝒱₀ (c : Thread nD τ) none Set.univ) (Set.mem_univ _) () (O := O₁ e c) (W := W) (R := 0) (m := 0) (T := ∅)
      (by rw [expect_of e m c (by rw [role_bar]; rfl), role_bar]; rfl)) $$ [Hc HO Hat]
  · isplitr; · iexact HI
    isplitl [Hc]; · iexact Hc
    isplitl [HO]; · iexact HO
    isplitr; · iapply (mayWait_bar e c); iexact Hl
    iexact Hat
  iintro ⟨HO, Hat, -, Hp⟩
  ihave Hp := (Entails.of_eq ((rest_of e m c (sm := .reg barS) (by rw [role_bar]; rfl)).trans (congrArg (pay e m c) role_bar))) $$ Hp
  imod (close_done e m (κ := κ)) $$ [Hat] with Hz
  · isplitr; · iexact HI
    iexact Hat
  iapply Hk
  isplitl [HO]; · iexists _; iexact HO
  isplitl [Hp]; · unfold pay; iexact Hp
  iexact Hz

/-- The wait on a transfer semaphore in use, nothing being owed: it takes what the cell hands over; the cell closes. -/
theorem step_wait (c : Dev nD) (q : DmaSem sig) (j : Fin 10) (R : Role) (hj : csem j = .dma q) (hr : role (.dma q) = R) (hu : inUse e R = true)
    {sp sp' : Space} {s s' : Shape} {t t' : EltTy} {a : Memref sig .tc sp' s' t'} {b : Memref sig .tc sp s t} {ha : a.view.WordExact} {hb : b.view.WordExact}
    (hN : b.view.dmaCredit = units R)
    {α : Type} {Q : α → sProp 𝕄} {k : PUnit → Prog (TpuEff nD τ sig (Elt F) Λ₀ .tc) α} :
    iprop(book e m ∗ cred (tallyAt ((c : Thread nD τ), .dma q) () (units R)) ∗ owing c 0 ∗ atPos ER ((c : Thread nD τ), .dma q) 0 ∅ 0)
      ⊢ iprop(((owing c 0 ∗ pay e m c R ∗ semVal ((c : Thread nD τ), .dma q) 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q a b ha hb) k) Q) := by
  unfold owing
  iintro ⟨#HB, Hc, ⟨%W, HO⟩, Hat⟩ Hk
  ihave HK := (book_at e m (c := c) hj) $$ HB
  unfold known
  icases HK with ⟨⟨%κ, #HI⟩, #HR⟩
  rw [← hN]
  iapply (Rounds.wp_wait_rest_token 𝒱₀ ER (rd e m) (c : Thread nD τ) none (κ := κ)
      (wpE_waitDma2_eq 𝒱₀ (c : Thread nD τ) none Set.univ) (Set.mem_univ _) () (O := 0) (W := W) (R := 0) (m := 0) (T := ∅)
      (by rw [expect_of e m c (by rw [hr]; exact hu), hr, Nat.zero_add]; exact hN)) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq ((rest_of e m c (sm := .dma q) (by rw [hr]; exact hu)).trans (by rw [hr]))) $$ Hp
  imod (close_done e m (κ := κ)) $$ [Hat] with Hz
  · isplitr; · iexact HI
    iexact Hat
  iapply Hk
  isplitl [HO]; · iexists _; iexact HO
  isplitl [Hp]; · iexact Hp
  iexact Hz

/-- Chunk `k` of `x` sent to the partner (`n`, as the body names it): it pays the owed receive credit and promises the
    own send credit. -/
theorem step_send (c n : Dev nD) (hn : n = peer c) (k : Fin 4)
    {hsc : (oC k : Memref sig (Dev.tc n : Thread nD τ).2.kind .hbm S1x512x1024 .f32).view.ref.isScScratch = false}
    {hsrc : (xC k).view.WordExact} {hdst : (oC k : Memref sig (Dev.tc n : Thread nD τ).2.kind .hbm S1x512x1024 .f32).view.WordExact}
    {hsem : DmaTarget.Typed .hbm (.dma (recvS k)) (.remote (Dev.tc n : Thread nD τ) (oC k) (.dma (sendS k)) hsc)}
    {α : Type} {Q : α → sProp 𝕄} {K : PUnit → Prog (TpuEff nD τ sig (Elt F) Λ₀ .tc) α}
    (f : Buf (Elt F) ((peer c : Thread nD τ).loc main_v1)) :
    iprop(book true m ∗ xPts m c k ∗ oPts (peer c) k f ∗ owing c (left c k.castSucc)
        ∗ dutyTok ER (sendCell c k) 0 () ∗ dutyTok ER (recvCell (peer c) k) 0 ())
      ⊢ iprop(((owing c (left c k.succ) ∗ cred (tallyAt (sendCell c k) () NC)) -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (xC k) (.remote (Dev.tc n : Thread nD τ) (oC k) (.dma (sendS k)) hsc) (.dma (recvS k)) hsrc hdst hsem) K) Q) := by
  subst hn
  unfold owing
  iintro ⟨#HB, Hx, Ho, ⟨%W, HO⟩, HtS, HtR⟩ Hk
  ihave HS := (book_at true m (c := c) (csem_send k)) $$ HB
  ihave HR := (book_at true m (c := peer c) (csem_recv k)) $$ HB
  unfold known
  icases HS with ⟨⟨%κ, #HIS⟩, #HRS⟩
  icases HR with ⟨⟨%κ', #HIR⟩, #HRR⟩
  unfold xPts oPts
  iapply (Rounds.wp_send_pointsTo 𝒱₀ ER (rd true m) (c : Thread nD τ) none (κ₁ := κ) (κ₂ := κ')
      (r₁ := 0) (r₂ := 0) (d₁ := ()) (d₂ := ()) (fd := f)
      (by rw [duties_of true m c (by rw [role_send]; rfl)]; exact Finset.mem_singleton_self _)
      (by rw [duties_of true m (peer c) (by rw [role_recv]; rfl)]; exact Finset.mem_singleton_self _)
      () () NC (by fin_cases k <;> rfl) (amount_of true m c 0 () (role_send k)) (amount_of true m (peer c) 0 () (role_recv k))
      (left c k.succ) (left_succ c k) (W := W)
      (by rw [payload_of true m c 0 () (role_send k)]; exact BI.Entails.refl _)
      (by rw [payload_of true m (peer c) 0 () (role_recv k), landed (peer c) c k]; unfold pay res src; rw [if_pos rfl, peer_peer]))
    $$ [Hx Ho HO HtS HtR]
  · isplitr; · iexact HIS
    isplitr; · iexact HIR
    isplitl [Hx]; · iexact Hx
    isplitl [Ho]; · iexact Ho
    isplitl [HO]; · iexact HO
    isplitl [HtS]; · iexact HtS
    isplitr; · iexact HRS
    isplitl [HtR]; · iexact HtR
    iexact HRR
  iintro ⟨Hc, HO⟩
  iapply Hk
  isplitl [HO]; · iexists W; iexact HO
  iexact Hc

omit [FloatOps F] in
theorem whole_x (c : Dev nD) (g : Buf (Elt F) ((c : Thread nD τ).loc main_arg0)) :
    ((xM : Memref sig .tc .hbm S1x2048x1024 .f32).view.loc (c : Thread nD τ) ↦[(xM : Memref sig .tc .hbm S1x2048x1024 .f32).view.set]{fullShare} g : sProp 𝕄)
      = (((c : Thread nD τ).loc main_arg0) ↦{fullShare} g) := by rw [View.set_whole]
omit [FloatOps F] in
theorem whole_o (c : Dev nD) (g : Buf (Elt F) ((c : Thread nD τ).loc main_v1)) :
    ((oM : Memref sig .tc .hbm S1x2048x1024 .f32).view.loc (c : Thread nD τ) ↦[(oM : Memref sig .tc .hbm S1x2048x1024 .f32).view.set]{fullShare} g : sProp 𝕄)
      = (((c : Thread nD τ).loc main_v1) ↦{fullShare} g) := by rw [View.set_whole]

/-- The whole of `x` copied into the device's own result buffer, when each half stays where it is. -/
theorem step_copy (c : Dev nD) {hsrc : (xM : Memref sig .tc .hbm S1x2048x1024 .f32).view.WordExact} {hdst : (oM : Memref sig .tc .hbm S1x2048x1024 .f32).view.WordExact}
    {hsem : DmaTarget.Typed .hbm (.dma copyS) (DmaTarget.here (nD := nD) (τ := τ) (p := (c : Thread nD τ).2) (oM : Memref sig .tc .hbm S1x2048x1024 .f32))}
    {α : Type} {Q : α → sProp 𝕄} {K : PUnit → Prog (TpuEff nD τ sig (Elt F) Λ₀ .tc) α}
    (f : Buf (Elt F) ((c : Thread nD τ).loc main_v1)) :
    iprop(book false m ∗ (((c : Thread nD τ).loc main_arg0) ↦{fullShare} X m c) ∗ (((c : Thread nD τ).loc main_v1) ↦{fullShare} f)
        ∗ dutyTok ER (copyCell c) 0 ())
      ⊢ iprop((cred (tallyAt (copyCell c) () NW) -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (xM : Memref sig .tc .hbm S1x2048x1024 .f32) (.here (oM : Memref sig .tc .hbm S1x2048x1024 .f32)) (.dma copyS) hsrc hdst hsem) K) Q) := by
  iintro ⟨#HB, Hx, Ho, Ht⟩ Hk
  ihave HS := (book_at false m (c := c) csem_copy) $$ HB
  unfold known
  icases HS with ⟨⟨%κ, #HI⟩, #HR⟩
  iapply (Rounds.wp_copy_pointsTo 𝒱₀ ER (rd false m) (c : Thread nD τ) none (κ := κ) (r := 0) (d := ()) (fs := X m c) (fd := f) (q := fullShare)
      (by rw [duties_of false m c (by rw [role_copy]; rfl)]; exact Finset.mem_singleton_self _) () NW rfl (amount_of false m c 0 () role_copy)
      (by
        rw [payload_of false m c 0 () role_copy, whole_x, whole_o]; unfold pay copyPay res src
        rw [if_neg Bool.false_ne_true]
        refine sep_mono_left (Entails.of_eq (congrArg _ ?_))
        exact View.write_whole_univ _ _ _))
    $$ [Hx Ho Ht]
  · isplitr; · iexact HI
    isplitl [Hx]; · rw [whole_x]; iexact Hx
    isplitl [Ho]; · rw [whole_o]; iexact Ho
    isplitl [Ht]; · iexact Ht
    iexact HR
  iexact Hk

end Cert.SwapProof

end
-- ==== Proof.Body.lean ====
/-
The exchange kernel's body, run symbolically on device `c` in either mode: from `start` to `finish`, one rule per effect
in program order.
-/
module

public import proofs.«01_k».proof.Proof.Steps

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (e : Bool) (m : (ℓ : Loc nD τ sig) → Buf (Elt F) ℓ) (ρ : Dev nD → PrngReg)

/-! ## The pipeline's proof data: one grid point, the table its one window -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
  Φ t := match t with
    | ⟨0, _⟩ => start e m c
    | ⟨_ + 1, _⟩ => finish e m c
  q _ := fullShare
  owed t := match t with
    | ⟨0, _⟩ => O₀ e c
    | ⟨_ + 1, _⟩ => 0

def t₀ : Fin cfg0.N := t0_0

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- The staged table's buffer at contents `Y`. -/
abbrev tblPts (c : Dev nD) (Y : (cc0_stg0_0 : Ref sig .tc).ty.Contents (Elt F)) : sProp 𝕄 :=
  iprop(∃ f : Buf (Elt F) (((c : Dev nD) : Thread nD τ).loc cc0_stg0_0), ⌜f = Y⌝ ∗ (((c : Thread nD τ).loc cc0_stg0_0) ↦{fullShare} f))

def bodyPre (c : Dev nD) : sProp 𝕄 :=
  iprop(start e m c ∗ (dats e m ρ 0 c).owesAt () t₀.castSucc ∗ (∃ d, tblPts c ((dats e m ρ 0 c).before (0 : Fin 1) t₀ d)))
def bodyPost (c : Dev nD) : sProp 𝕄 :=
  iprop(finish e m c ∗ (dats e m ρ 0 c).owesAt () t₀.succ ∗ tblPts c (tstg m ρ c))

/-- The body's second branch is taken exactly when each half stays where it is. -/
theorem near_iff (h : TableOK e m) (c : Dev nD) :
    (Scalar.cmpi .ne (Scalar.extui (Scalar.cmpi .eq (word c (tstg m ρ c)) (Scalar.remsi (Scalar.divsi (Dev.word c) 2#32) 2#32)) : BitVec 32) 0#32 = 1#1) ↔ e = false := by
  rw [word_tstg, h c]; clear h; revert c e; decide

/-- In the first branch each of the four transfers names the partner. -/
theorem dev_eq (h : TableOK true m) (c : Dev nD) (hw : k0_chk1 c (word c (tstg m ρ c))) (hc : k0_cond1 c (word c (tstg m ρ c)) = 1#1) :
    (⟨k0_dev2 c (word c (tstg m ρ c)), k0_dev2_lt c _ hw hc⟩ : Dev nD) = peer c ∧ (⟨k0_dev3 c (word c (tstg m ρ c)), k0_dev3_lt c _ hw hc⟩ : Dev nD) = peer c
      ∧ (⟨k0_dev4 c (word c (tstg m ρ c)), k0_dev4_lt c _ hw hc⟩ : Dev nD) = peer c ∧ (⟨k0_dev5 c (word c (tstg m ρ c)), k0_dev5_lt c _ hw hc⟩ : Dev nD) = peer c := by
  have key : ∀ c : Dev nD, k0_dev2 c (BitVec.ofNat 32 ((src true c).val / 2)) = (peer c).val ∧ k0_dev3 c (BitVec.ofNat 32 ((src true c).val / 2)) = (peer c).val
      ∧ k0_dev4 c (BitVec.ofNat 32 ((src true c).val / 2)) = (peer c).val ∧ k0_dev5 c (BitVec.ofNat 32 ((src true c).val / 2)) = (peer c).val := by decide
  have hk := key c
  rw [← h c, ← word_tstg m ρ c] at hk
  exact ⟨Fin.ext hk.1, Fin.ext hk.2.1, Fin.ext hk.2.2.1, Fin.ext hk.2.2.2⟩

set_option maxHeartbeats 3200000 in
/-- The body, in either mode: up to the barrier wait the modes are alike; then the four chunks cross, or the whole is
    copied at home. -/
theorem sound_body (h : TableOK e m) (c : Dev nD) (Kt : PUnit → sProp 𝕄) :
    iprop(bodyPre e m ρ c ∗ (bodyPost e m ρ c -∗ Kt ⟨⟩))
      ⊢ wp frame (wpE (defs₀ (F := F)) 𝒱₀ c none) Set.univ
          (cc0_body (Memref.whole cc0_stg0_0) (Memref.isWhole_whole _) (Memref.whole main_arg0) (Memref.isWhole_whole _)
            (Memref.whole main_v1) (Memref.isWhole_whole _) cc0_scratch0 cc0_scratch1 cc0_scratch2) Kt := by
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, smemLoad, smemLoadElt, Prog.lift, Prog.bind_op, Prog.bind_ret, Prog.pure_eq_ret, Prog.bind_assoc, wp_deviceId]
  unfold bodyPre start rights
  rw [places_split]
  iintro ⟨⟨⟨⟨#HB, ⟨HaB, ⟨HaS0, HaS1, HaS2, HaS3⟩, ⟨HaR0, HaR1, HaR2, HaR3⟩, HaC⟩, HtB, ⟨HtS0, HtS1, HtS2, HtS3⟩, ⟨HtR0, HtR1, HtR2, HtR3⟩, HtC⟩,
    HcB, HcR, #Hlev, Hx, ⟨%f0, Hv⟩⟩, Ho, ⟨%d0, %g0, %hg0, Ht⟩⟩, Hk⟩
  have ht : g0 = tstg m ρ c := by rw [hg0]; unfold Dat.before; rw [if_pos (fetch0_0 t₀)]; rfl
  subst ht
  unfold Dat.owesAt Pipeline.owesWithin
  icases Ho with ⟨%W, %hW, HO⟩
  ihave Ho : owing (F := F) c (O₀ e c) $$ [HO]
  · unfold owing; iexists W; iexact HO
  -- the table's word, and its check
  iapply (wp_load_rect 𝒱₀ (c : Thread nD τ) none Set.univ (m := Memref.whole cc0_stg0_0) (r := tblR c) (Finset.subset_univ _)) $$ Ht; iintro Ht
  simp only [wp_assume_of _ _ _ _ (d := k0_chk1.dec _ _) (h.chk ρ c)]
  cases e with
  | true =>
    -- the signal hands the partner this device's result buffer, in chunks; the barrier wait brings the partner's
    ihave Hv := (Entails.of_eq (o_chunks c f0)) $$ Hv
    ihave Hp : barPay (F := F) true (peer c) $$ [Hv]
    · unfold barPay; rw [if_pos rfl, peer_peer]; iexists f0; iexact Hv
    iapply (step_signal true m c _ (peer_dev1 c)) $$ [Ho HtB Hp]
    · isplitr; · iexact HB
      isplitl [Ho]; · iexact Ho
      isplitl [HtB] <;> iassumption
    iintro Ho
    iapply (step_barrier true m c) $$ [HcB Ho HaB]
    · isplitr; · iexact HB
      isplitr; · iexact Hlev
      isplitl [HcB]; · iexact HcB
      isplitl [Ho] <;> iassumption
    iintro ⟨Ho, Hp, HzB⟩
    ihave Hp := (Entails.of_eq (show barPay (F := F) true c = iprop(∃ f, oPts (peer c) 0 f ∗ oPts (peer c) 1 f ∗ oPts (peer c) 2 f ∗ oPts (peer c) 3 f) from by
      unfold barPay; rw [if_pos rfl]; simp only [bigSep_fin4])) $$ Hp
    icases Hp with ⟨%f, Hd0, Hd1, Hd2, Hd3⟩
    ihave Hx := (Entails.of_eq ((x_chunks m c).trans (bigSep_fin4 _))) $$ Hx
    icases Hx with ⟨Hx0, Hx1, Hx2, Hx3⟩
    ihave HcR := (Entails.of_eq (dueChunks_exchange c)) $$ HcR
    icases HcR with ⟨HcR0, HcR1, HcR2, HcR3⟩
    ihave Ho : owing (F := F) c (left c (Fin.castSucc 0)) $$ [Ho]
    · iexact Ho
    rw [dif_pos (h.far ρ c)]
    obtain ⟨e2, e3, e4, e5⟩ := dev_eq m ρ h c (h.chk ρ c) (h.far ρ c)
    -- the four sends
    iapply (step_send m c _ e2 0 f) $$ [Hx0 Hd0 Ho HtS0 HtR0]
    · isplitr; · iexact HB
      isplitl [Hx0]; · iexact Hx0
      isplitl [Hd0]; · iexact Hd0
      isplitl [Ho]; · iexact Ho
      isplitl [HtS0] <;> iassumption
    iintro ⟨Ho, HcS0⟩
    iapply (step_send m c _ e3 1 f) $$ [Hx1 Hd1 Ho HtS1 HtR1]
    · isplitr; · iexact HB
      isplitl [Hx1]; · iexact Hx1
      isplitl [Hd1]; · iexact Hd1
      isplitl [Ho]; · iexact Ho
      isplitl [HtS1] <;> iassumption
    iintro ⟨Ho, HcS1⟩
    iapply (step_send m c _ e4 2 f) $$ [Hx2 Hd2 Ho HtS2 HtR2]
    · isplitr; · iexact HB
      isplitl [Hx2]; · iexact Hx2
      isplitl [Hd2]; · iexact Hd2
      isplitl [Ho]; · iexact Ho
      isplitl [HtS2] <;> iassumption
    iintro ⟨Ho, HcS2⟩
    iapply (step_send m c _ e5 3 f) $$ [Hx3 Hd3 Ho HtS3 HtR3]
    · isplitr; · iexact HB
      isplitl [Hx3]; · iexact Hx3
      isplitl [Hd3]; · iexact Hd3
      isplitl [Ho]; · iexact Ho
      isplitl [HtS3] <;> iassumption
    iintro ⟨Ho, HcS3⟩
    ihave Ho : owing (F := F) c 0 $$ [Ho]
    · iexact Ho
    -- the eight waits: each send gives back its chunk of `x`, each receive a chunk of the result
    iapply (step_wait true m c (a := oC 0) (b := xC 0) (sendS 0) (jS 0) (.send 0) (csem_send 0) (role_send 0) rfl rfl) $$ [HcS0 Ho HaS0]
    · isplitr; · iexact HB
      isplitl [HcS0]; · iexact HcS0
      isplitl [Ho] <;> iassumption
    iintro ⟨Ho, Hx0, HzS0⟩
    iapply (step_wait true m c (a := xC 0) (b := oC 0) (recvS 0) (jR 0) (.recv 0) (csem_recv 0) (role_recv 0) rfl rfl) $$ [HcR0 Ho HaR0]
    · isplitr; · iexact HB
      isplitl [HcR0]; · iexact HcR0
      isplitl [Ho] <;> iassumption
    iintro ⟨Ho, Hd0, HzR0⟩
    iapply (step_wait true m c (a := oC 1) (b := xC 1) (sendS 1) (jS 1) (.send 1) (csem_send 1) (role_send 1) rfl rfl) $$ [HcS1 Ho HaS1]
    · isplitr; · iexact HB
      isplitl [HcS1]; · iexact HcS1
      isplitl [Ho] <;> iassumption
    iintro ⟨Ho, Hx1, HzS1⟩
    iapply (step_wait true m c (a := xC 1) (b := oC 1) (recvS 1) (jR 1) (.recv 1) (csem_recv 1) (role_recv 1) rfl rfl) $$ [HcR1 Ho HaR1]
    · isplitr; · iexact HB
      isplitl [HcR1]; · iexact HcR1
      isplitl [Ho] <;> iassumption
    iintro ⟨Ho, Hd1, HzR1⟩
    iapply (step_wait true m c (a := oC 2) (b := xC 2) (sendS 2) (jS 2) (.send 2) (csem_send 2) (role_send 2) rfl rfl) $$ [HcS2 Ho HaS2]
    · isplitr; · iexact HB
      isplitl [HcS2]; · iexact HcS2
      isplitl [Ho] <;> iassumption
    iintro ⟨Ho, Hx2, HzS2⟩
    iapply (step_wait true m c (a := xC 2) (b := oC 2) (recvS 2) (jR 2) (.recv 2) (csem_recv 2) (role_recv 2) rfl rfl) $$ [HcR2 Ho HaR2]
    · isplitr; · iexact HB
      isplitl [HcR2]; · iexact HcR2
      isplitl [Ho] <;> iassumption
    iintro ⟨Ho, Hd2, HzR2⟩
    iapply (step_wait true m c (a := oC 3) (b := xC 3) (sendS 3) (jS 3) (.send 3) (csem_send 3) (role_send 3) rfl rfl) $$ [HcS3 Ho HaS3]
    · isplitr; · iexact HB
      isplitl [HcS3]; · iexact HcS3
      isplitl [Ho] <;> iassumption
    iintro ⟨Ho, Hx3, HzS3⟩
    iapply (step_wait true m c (a := xC 3) (b := oC 3) (recvS 3) (jR 3) (.recv 3) (csem_recv 3) (role_recv 3) rfl rfl) $$ [HcR3 Ho HaR3]
    · isplitr; · iexact HB
      isplitl [HcR3]; · iexact HcR3
      isplitl [Ho] <;> iassumption
    iintro ⟨Ho, Hd3, HzR3⟩
    -- the second branch is not taken; the copy cell closes unused
    rw [if_neg fun hn => Bool.noConfusion ((near_iff true m ρ h c).mp hn)]
    imod (close_idle true m (c := c) (sm := .dma copyS) rfl) $$ [HaC] with HzC
    · isplitr; · iapply (book_at true m csem_copy); iexact HB
      iexact HaC
    rw [wp_ret]; imodintro
    iapply Hk
    unfold bodyPost finish Dat.owesAt Pipeline.owesWithin owing pay
    rw [cells_split (fun g => semVal g 0), x_chunks, o_chunks, bigSep_fin4, bigSep_fin4]
    icases Ho with ⟨%W', HO⟩
    isplitr [HO Ht]
    · isplitl [Hx0 Hx1 Hx2 Hx3]
      · isplitl [Hx0]; · iexact Hx0
        isplitl [Hx1]; · iexact Hx1
        isplitl [Hx2] <;> iassumption
      isplitl [Hd0 Hd1 Hd2 Hd3]
      · isplitl [Hd0]; · iexact Hd0
        isplitl [Hd1]; · iexact Hd1
        isplitl [Hd2] <;> iassumption
      isplitl [HzB]; · iexact HzB
      isplitl [HzS0 HzS1 HzS2 HzS3]
      · isplitl [HzS0]; · iexact HzS0
        isplitl [HzS1]; · iexact HzS1
        isplitl [HzS2] <;> iassumption
      isplitl [HzR0 HzR1 HzR2 HzR3]
      · isplitl [HzR0]; · iexact HzR0
        isplitl [HzR1]; · iexact HzR1
        isplitl [HzR2] <;> iassumption
      iexact HzC
    isplitl [HO]
    · iexists W'
      isplitr; · ipureintro; exact fun _ _ => Or.inl trivial
      iexact HO
    iexists _; isplitr; · (ipureintro; rfl)
    iexact Ht
  | false =>
    -- the signal hands over nothing
    ihave Hp : barPay (F := F) false (peer c) $$ []
    · unfold barPay; rw [if_neg Bool.false_ne_true]; iempintro
    iapply (step_signal false m c _ (peer_dev1 c)) $$ [Ho HtB Hp]
    · isplitr; · iexact HB
      isplitl [Ho]; · iexact Ho
      isplitl [HtB] <;> iassumption
    iintro Ho
    iapply (step_barrier false m c) $$ [HcB Ho HaB]
    · isplitr; · iexact HB
      isplitr; · iexact Hlev
      isplitl [HcB]; · iexact HcB
      isplitl [Ho] <;> iassumption
    iintro ⟨Ho, Hp, HzB⟩
    rw [dif_neg (h.notFar ρ c), if_pos ((near_iff false m ρ h c).mpr rfl)]
    -- the copy, and the wait for it
    iapply (step_copy m c f0) $$ [Hx Hv HtC]
    · isplitr; · iexact HB
      isplitl [Hx]; · iexact Hx
      isplitl [Hv] <;> iassumption
    iintro HcC
    ihave Ho : owing (F := F) c 0 $$ [Ho]
    · iexact Ho
    iapply (step_wait false m c (a := xM) (b := oM) copyS 9 .copy csem_copy role_copy rfl rfl) $$ [HcC Ho HaC]
    · isplitr; · iexact HB
      isplitl [HcC]; · iexact HcC
      isplitl [Ho] <;> iassumption
    iintro ⟨Ho, Hp, HzC⟩
    unfold pay copyPay
    icases Hp with ⟨Hv, Hx⟩
    -- the send and receive cells close unused
    imod (close_idle false m (c := c) (sm := .dma (sendS 0)) rfl) $$ [HaS0] with HzS0
    · isplitr; · iapply (book_at false m (csem_send 0)); iexact HB
      iexact HaS0
    imod (close_idle false m (c := c) (sm := .dma (recvS 0)) rfl) $$ [HaR0] with HzR0
    · isplitr; · iapply (book_at false m (csem_recv 0)); iexact HB
      iexact HaR0
    imod (close_idle false m (c := c) (sm := .dma (sendS 1)) rfl) $$ [HaS1] with HzS1
    · isplitr; · iapply (book_at false m (csem_send 1)); iexact HB
      iexact HaS1
    imod (close_idle false m (c := c) (sm := .dma (recvS 1)) rfl) $$ [HaR1] with HzR1
    · isplitr; · iapply (book_at false m (csem_recv 1)); iexact HB
      iexact HaR1
    imod (close_idle false m (c := c) (sm := .dma (sendS 2)) rfl) $$ [HaS2] with HzS2
    · isplitr; · iapply (book_at false m (csem_send 2)); iexact HB
      iexact HaS2
    imod (close_idle false m (c := c) (sm := .dma (recvS 2)) rfl) $$ [HaR2] with HzR2
    · isplitr; · iapply (book_at false m (csem_recv 2)); iexact HB
      iexact HaR2
    imod (close_idle false m (c := c) (sm := .dma (sendS 3)) rfl) $$ [HaS3] with HzS3
    · isplitr; · iapply (book_at false m (csem_send 3)); iexact HB
      iexact HaS3
    imod (close_idle false m (c := c) (sm := .dma (recvS 3)) rfl) $$ [HaR3] with HzR3
    · isplitr; · iapply (book_at false m (csem_recv 3)); iexact HB
      iexact HaR3
    rw [wp_ret]; imodintro
    iapply Hk
    unfold bodyPost finish Dat.owesAt Pipeline.owesWithin owing
    rw [cells_split (fun g => semVal g 0)]
    icases Ho with ⟨%W', HO⟩
    isplitr [HO Ht]
    · isplitl [Hx]
      · iexact Hx
      isplitl [Hv]
      · iexact Hv
      isplitl [HzB]; · iexact HzB
      isplitl [HzS0 HzS1 HzS2 HzS3]
      · isplitl [HzS0]; · iexact HzS0
        isplitl [HzS1]; · iexact HzS1
        isplitl [HzS2] <;> iassumption
      isplitl [HzR0 HzR1 HzR2 HzR3]
      · isplitl [HzR0]; · iexact HzR0
        isplitl [HzR1]; · iexact HzR1
        isplitl [HzR2] <;> iassumption
      iexact HzC
    isplitl [HO]
    · iexists W'
      isplitr; · ipureintro; exact fun _ _ => Or.inl trivial
      iexact HO
    iexists _; isplitr; · (ipureintro; rfl)
    iexact Ht

set_option maxRecDepth 4000 in
/-- What the launch asks of the body at the grid's one point. -/
theorem body_obligation (h : TableOK e m) (c : Dev nD) : BodyObligation (dats (F := F) e m ρ 0 c) (defs₀ (F := F)) 𝒱₀ () Set.univ := fun t => by
  rw [show t = t₀ from fin_N0 t, bigSep_W0, bigSep_W0]
  simp only [owns_whole_eq]
  show bodyPre e m ρ c ⊢ wp frame (wpE (defs₀ (F := F)) 𝒱₀ c none) Set.univ
    (cc0_body (Memref.whole cc0_stg0_0) (Memref.isWhole_whole _) (Memref.whole main_arg0) (Memref.isWhole_whole _)
      (Memref.whole main_v1) (Memref.isWhole_whole _) cc0_scratch0 cc0_scratch1 cc0_scratch2) (fun _ => bodyPost e m ρ c)
  iintro H
  iapply (sound_body e m ρ h c fun _ => bodyPost e m ρ c)
  isplitl [H]; · iexact H
  iintro H; iexact H

end Cert.SwapProof

end
-- ==== Proof.Run.lean ====
/-
The launch: the cells' ghost state made and dealt out, the credit each device starts with, and the run of the whole
program in either mode — from any memory whose tables name the mode's permutation, every execution ends, with every
counter at zero, the arguments as they were and each device's result holding the `x` of `src`.
-/
module

public import proofs.«01_k».proof.Proof.Body
public import Idealize.ShloMosaic.Lib.Pipeline.CollectiveSegs

@[expose] public section

noncomputable section

namespace Cert.SwapProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (e : Bool) (m : (ℓ : Loc nD τ sig) → Buf (Elt F) ℓ) (ρ : Dev nD → PrngReg)

/-! ## The cells, minted -/

theorem csem_injective : ∀ j j' : Fin 10, csem j = csem j' → j = j' := by decide

theorem kcell_injective : Function.Injective (kcell : Dev nD × Fin 10 → GSem nD τ sig) := by
  rintro ⟨c, j⟩ ⟨c', j'⟩ h
  obtain rfl : c = c' := congrArg (fun g : GSem nD τ sig => g.1.1) h
  obtain rfl : j = j' := csem_injective j j' (congrArg Prod.snd h)
  rfl

/-- A cell's one duty token. -/
abbrev tokOf (ck : Dev nD × Fin 10) : GSem nD τ sig × ℕ × Unit := (kcell ck, 0, ())
theorem tokOf_injective : Function.Injective tokOf := fun _ _ h => kcell_injective (congrArg Prod.fst h)

def allCells : Finset (GSem nD τ sig) := Finset.univ.map ⟨kcell, kcell_injective⟩
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The duty tokens of a device's own cells. -/
def toks (c : Dev nD) : sProp 𝕄 := bigSep Finset.univ fun j : Fin 10 => dutyTok ER (kcell (c, j)) 0 ()

/-- What the minted state gives each device, before the cells are set up; -/
def G (c : Dev nD) : sProp 𝕄 :=
  iprop((bigSep Finset.univ fun j : Fin 10 => roundState ER (rd e m) (kcell (c, j)) 0)
    ∗ (bigSep Finset.univ fun j : Fin 10 => reached ER (kcell (c, j)) 0) ∗ places c ∗ toks c)
/-- and after: that all cells are in place, where it stands, what it may pay. -/
def G' (c : Dev nD) : sProp 𝕄 := iprop(book e m ∗ places c ∗ rights c)

omit [FloatOps F] in
theorem fund_cells : BI.own (ER (initOf allCells allToks)) ⊢ (|==> bigSep Finset.univ (G e m) : sProp 𝕄) := by
  have hC (Φ : GSem nD τ sig → sProp 𝕄) : bigSep allCells Φ = bigSep Finset.univ fun c : Dev nD => bigSep Finset.univ fun j : Fin 10 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro H
  imod (Rounds.fund ER (rd e m) allCells allToks) $$ H with ⟨Hst, Hr, Hat, Htok⟩
  imodintro
  unfold G places
  simp only [bigSep_sep', ← hC fun g => roundState ER (rd e m) g 0, ← hC fun g => reached ER g 0, ← hC fun g => atPos ER g 0 ∅ 0, ← hT]
  isplitl [Hst]; · iexact Hst
  isplitl [Hr]; · iexact Hr
  isplitl [Hat] <;> iassumption

/-! ## The global step -/

/-- The kernel's own semaphores: the sends, the receives, the copy. -/
abbrev osem : Fin 9 → SemLoc sig := fun j => csem j.succ
theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = iprop(((semVal (sendCell c 0) 0 ∗ semVal (sendCell c 1) 0 ∗ semVal (sendCell c 2) 0 ∗ semVal (sendCell c 3) 0)
        ∗ (semVal (recvCell c 0) 0 ∗ semVal (recvCell c 1) 0 ∗ semVal (recvCell c 2) 0 ∗ semVal (recvCell c 3) 0) ∗ semVal (copyCell c) 0)) := by
  rw [Pipeline.ownSems0_eq_of_list c osem [0, 1, 2, 3, 4, 5, 6, 7, 8] (by decide) (by decide)]
  refine BI.Entails.antisymm ?_ ?_
  · show iprop(semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0 ∗ semVal (copyCell c) 0) ⊢ _
    iintro ⟨H1, H2, H3, H4, H5, H6, H7, H8, H9⟩
    isplitl [H1 H2 H3 H4]
    · isplitl [H1]; · iexact H1
      isplitl [H2]; · iexact H2
      isplitl [H3] <;> iassumption
    isplitl [H5 H6 H7 H8]
    · isplitl [H5]; · iexact H5
      isplitl [H6]; · iexact H6
      isplitl [H7] <;> iassumption
    iexact H9
  · show _ ⊢ iprop(semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0 ∗ semVal (copyCell c) 0)
    iintro ⟨⟨H1, H2, H3, H4⟩, ⟨H5, H6, H7, H8⟩, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's ten counters at zero: the launch's unscoped one and the kernel's own nine. -/
theorem sems0_eq (c : Dev nD) : (bigSep Finset.univ fun j : Fin 10 => semVal (kcell (c, j)) 0 : sProp 𝕄)
    = iprop(unscopedSems0 c ∗ Pipeline.ownSems0 (Ix := Unit) (Name := ℕ) (U := UU) (Lvl := ℕ) (Val := Elt F) (τ := τ) osem c) := by
  rw [cells_split (fun g => semVal g 0), ownSems0_eq, unscopedSems0_eq]

omit [FloatOps F] in
/-- One device sets up its ten cells. -/
theorem core_alloc (c : Dev nD) :
    iprop(Pipeline.ownSems0 (Ix := Unit) (Name := ℕ) (U := UU) (Lvl := ℕ) (Val := Elt F) (τ := τ) osem c ∗ unscopedSems0 c ∗ G e m c)
      ⊢ |={Set.univ}=> iprop((bigSep Finset.univ fun j : Fin 10 => known e m (kcell (c, j))) ∗ places c ∗ toks c) := by
  unfold G known
  rw [bigSep_sep']
  iintro ⟨Hos, Hus, Hst, Hr, Hat, Htok⟩
  ihave Hv := (Entails.of_eq (sems0_eq (F := F) c).symm) $$ [Hos Hus]
  · isplitl [Hus] <;> iassumption
  imod (show iprop((bigSep Finset.univ fun j : Fin 10 => semVal (kcell (c, j)) 0) ∗ bigSep Finset.univ fun j : Fin 10 => roundState ER (rd e m) (kcell (c, j)) 0)
      ⊢ (|={Set.univ}=> bigSep Finset.univ fun j : Fin 10 => iprop(∃ κ : ℕ, cellInv ER (rd e m) κ (kcell (c, j))) : sProp 𝕄) from by
        rw [← bigSep_sep']
        exact (bigSep_mono fun j _ => (Rounds.body_intro ER (rd e m) (kcell (c, j))).trans inv_alloc).trans (bigSep_fupd _ _)) $$ [Hv Hst] with Hinv
  · isplitl [Hv] <;> iassumption
  imodintro
  isplitl [Hinv Hr]
  · isplitl [Hinv] <;> iassumption
  isplitl [Hat] <;> iassumption

omit [FloatOps F] in
/-- Each barrier and receive token goes to the partner, who pays it; the others stay. -/
theorem toks_dealt : (bigSep Finset.univ fun c : Dev nD => (toks c : sProp 𝕄)) ⊢ bigSep Finset.univ fun c : Dev nD => rights c := by
  have hs (Φ : Dev nD → sProp 𝕄) : bigSep Finset.univ (fun c => Φ (peer c)) = bigSep Finset.univ Φ := (bigSep_univ_equiv swap Φ).symm
  have ht (c : Dev nD) : toks (F := F) c = _ := cells_split (fun g => dutyTok ER g 0 ()) c
  simp only [ht]
  unfold rights
  simp only [bigSep_sep']
  rw [hs fun c => dutyTok ER (barCell c) 0 (), hs fun c => dutyTok ER (recvCell c 0) 0 (), hs fun c => dutyTok ER (recvCell c 1) 0 (),
    hs fun c => dutyTok ER (recvCell c 2) 0 (), hs fun c => dutyTok ER (recvCell c 3) 0 ()]

omit [FloatOps F] in
/-- The cells made known to all, the tokens dealt. -/
theorem regroup : (bigSep Finset.univ fun c : Dev nD => iprop((bigSep Finset.univ fun j : Fin 10 => known e m (kcell (c, j))) ∗ places c ∗ toks c) : sProp 𝕄)
    ⊢ bigSep Finset.univ (G' e m) := by
  unfold G'
  simp only [bigSep_sep']
  rw [← bigSep_univ_prod (fun ck : Dev nD × Fin 10 => known e m (kcell ck))]
  refine BI.sep_mono ?_ (sep_mono_right toks_dealt)
  exact BI.bigSep_of_persistent Finset.univ (book e m)

omit [FloatOps F] in
/-- All devices set up their cells at once. -/
theorem glob : (bigSep Finset.univ fun c => iprop(Pipeline.ownSems0 (Ix := Unit) (Name := ℕ) (U := UU) (Lvl := ℕ) (Val := Elt F) (τ := τ) osem c ∗ unscopedSems0 c ∗ G e m c) : sProp 𝕄)
    ⊢ |={Set.univ}=> bigSep Finset.univ (G' e m) :=
  ((bigSep_mono fun c _ => core_alloc e m c).trans (bigSep_fupd _ _)).trans (BI.fupd_mono (regroup e m))

/-! ## The launch's side conditions -/

omit [FloatOps F] in
/-- What every device's partner owes it on one of its semaphores, as its credit. -/
theorem credit_one (c : Dev nD) (sm : SemLoc sig) (n : ℕ) :
    (Pipeline.launchCred (fun d => tallyAt ((peer d : Thread nD τ), sm) () n) c : sProp 𝕄) ⊢ cred (tallyAt ((c : Thread nD τ), sm) () n) :=
  Pipeline.launchCred_tallyAt sm peer peer peer_peer peer_peer () n c

omit [FloatOps F] in
/-- The four chunks a device's partner owes it, as its credit. -/
theorem credits_due (c : Dev nD) : (Pipeline.launchCred (O₁ e) c : sProp 𝕄) ⊢ dueChunks e c := by
  cases e with
  | false => unfold dueChunks; rw [if_neg Bool.false_ne_true]; iintro -; iempintro
  | true =>
    rw [dueChunks_exchange, show O₁ true = fun d => owedR d 3 + owedR d 2 + owedR d 1 + owedR d 0 from
        funext fun d => by unfold O₁ left; rfl,
      Pipeline.launchCred_add, Pipeline.launchCred_add, Pipeline.launchCred_add]
    iintro ⟨⟨⟨H3, H2⟩, H1⟩, H0⟩
    isplitl [H0]; · iapply (credit_one c (.dma (recvS 0)) NC); iexact H0
    isplitl [H1]; · iapply (credit_one c (.dma (recvS 1)) NC); iexact H1
    isplitl [H2]; · iapply (credit_one c (.dma (recvS 2)) NC); iexact H2
    iapply (credit_one c (.dma (recvS 3)) NC); iexact H3

omit [FloatOps F] in
/-- What is owed to a device at launch, as its credit. -/
theorem credits (c : Dev nD) : (Pipeline.launchCred (O₀ e) c : sProp 𝕄) ⊢ iprop(cred (tallyAt (barCell c) () 1) ∗ dueChunks e c) := by
  rw [show O₀ e = fun d => O₁ e d + tallyAt (barCell (peer d)) () 1 from rfl, Pipeline.launchCred_add]
  iintro ⟨H, Hb⟩
  isplitl [Hb]; · iapply (credit_one c (.reg barS) 1); iexact Hb
  iapply (credits_due e c); iexact H

omit [FloatOps F] in
theorem start_intro (c : Dev nD) :
    iprop(Pipeline.unscopedRestP Pipeline.Prefetch.none cfg0.spec c (fun b => m ((c : Thread nD τ).loc b)) ∗ levAts L lv
        ∗ Pipeline.launchCred (O₀ e) c ∗ prngReg c (ρ c) ∗ G' e m c)
      ⊢ |={Set.univ}=> iprop(start e m c ∗ emp) := by
  rw [Pipeline.unscopedRestP_none, unscopedRest0_eq]
  iintro ⟨⟨Hx, Hv⟩, Hlev, Hcr, -, HG⟩
  ihave Hc := (credits (F := F) e c) $$ Hcr
  icases Hc with ⟨Hb, Hd⟩
  imodintro
  unfold start G'
  isplitl
  · isplitl [HG]; · iexact HG
    isplitl [Hb]; · iexact Hb
    isplitl [Hd]; · iexact Hd
    isplitl [Hlev]; · iexact Hlev
    isplitl [Hx]; · iexact Hx
    iexists _; iexact Hv
  · iempintro

theorem start_enter (c : Dev nD) :
    iprop(start e m c ∗ Pipeline.prefHeld Pipeline.Prefetch.none c (fun _ => fullShare.right) (fun k => k.elim0) ∗ Pipeline.scopedRest cfg0.spec c)
      ⊢ (dats e m ρ 0 c).Φ 0 := by
  rw [show (dats e m ρ 0 c).Φ 0 = start e m c from rfl]
  iintro ⟨H, -, -⟩; iexact H

/-- What a device leaves with: its barrier's counter at zero, its `x` and its result. -/
def leave (c : Dev nD) : sProp 𝕄 :=
  iprop(unscopedSems0 c ∗ (((c : Thread nD τ).loc main_arg0) ↦{fullShare} X m c) ∗ (((c : Thread nD τ).loc main_v1) ↦{fullShare} res e m c))

theorem finish_exit (c : Dev nD) :
    (dats e m ρ 0 c).Φ (Fin.last cfg0.N) ⊢ iprop(leave e m c ∗ Pipeline.ownSems0 osem c ∗ Pipeline.scopedRest cfg0.spec c) := by
  rw [show (dats e m ρ 0 c).Φ (Fin.last cfg0.N) = finish e m c from rfl, scopedRest0_eq]
  unfold finish leave
  rw [sems0_eq]
  iintro ⟨Hx, Hv, Hu, Ho⟩
  isplitl [Hx Hv Hu]
  · isplitl [Hu]; · iexact Hu
    isplitl [Hx] <;> iassumption
  isplitl [Ho]; · iexact Ho
  iempintro

theorem waits (c : Dev nD) : (levAts L lv : sProp 𝕄) ⊢ Pipeline.cellsWaits cfgs (dats e m ρ) () 0 c :=
  Pipeline.cellsWaits_intro cfgs (dats e m ρ) () 0 c fun w s t =>
    mayWait_low e c _ (by fin_cases w; fin_cases s; rfl) _ (by
      rcases t with ⟨_ | _, ht⟩
      · exact Or.inl rfl
      · exact Or.inr rfl)

/-! ## The run -/

omit [FloatOps F] in
/-- A buffer held whole is what the machine's memory holds. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) {()} (fun _ : Unit => ℓ) (fun _ => f) s'
  rw [bigSep_singleton] at h
  refine h.trans ?_
  iintro ⟨%h, H⟩
  isplitr; · ipureintro; exact h () (Finset.mem_singleton_self _)
  iexact H

/-- What the run leaves in every device's arrays. -/
def Leaves (s : MemSt nD τ sig (Elt F)) : Prop := ∀ c : Dev nD,
  s.mem ((c : Thread nD τ).loc main_v1) = res e m c ∧ s.mem ((c : Thread nD τ).loc main_arg0) = m ((c : Thread nD τ).loc main_arg0)
    ∧ s.mem ((c : Thread nD τ).loc main_arg1) = m ((c : Thread nD τ).loc main_arg1)

set_option maxRecDepth 8000 in
/-- On the mesh of four devices, over any float values, from any memory whose tables name the mode's permutation: every
    weakly fair execution ends; each device's result then holds the `x` of `src`, its arguments what they held, and every
    counter is zero. -/
theorem run_main (h : TableOK e m) : θ_run defs (onTc (τ := τ) (main (F := F))) (s₀ m ρ) (fun r => Leaves e m r.2 ∧ r.2.sem = fun _ => 0) :=
  Pipeline.θ_run_region_owing_glob_pf (fun p => (cfgs p).toPCfg) (fun p => (cfgs p).toPCfg_adm) (dats e m ρ) () cellOf_inj (0 : Fin 1)
    winFacts0.to₀ ownSemFacts (Pipeline.PreFacts.none _) EP defs₀ 𝒱₀ m ρ main
    (hmain := fun _ => rfl)
    (hbody := body_obligation e m ρ h) (hne := fun w => by fin_cases w <;> exact Nat.succ_pos _) (harr := arr_whole0) (hstage := stage_whole0)
    (hshare := fun c => (dats e m ρ 0 c).share_full fun _ => rfl)
    (hdistinct := winFacts0.arr_inj)
    (O₀ := O₀ e) (howed₀ := fun _ => rfl) (howedN := fun _ => rfl)
    (L := L) (lv := lv) (hL := L_of_ne) (hwaits := waits e m ρ)
    (G := G e m) (G' := G' e m) (u₀ := u₀)
    (hu₀ := by
      unfold u₀
      iintro Hu
      ihave H := (ownU_pair _ _) $$ Hu
      icases H with ⟨HP, HX⟩
      imod (fund_cells e m) $$ HX with HG
      imodintro
      isplitl [HP] <;> iassumption)
    (hglob := glob e m)
    (hA := fun _ _ => rfl) (hpf := fun _ k => k.elim0)
    (X := start e m) (Y := leave e m) (Z := fun _ => iprop(emp))
    (hX := start_intro e m ρ) (hin := start_enter e m ρ) (hout := finish_exit e m ρ)
    (QY := fun c s => (∀ sm : SemLoc sig, sm.isScoped .tc = false → s.sem ((c.tc : Thread nD τ), sm) = 0)
      ∧ s.mem ((c : Thread nD τ).loc main_arg0) = X m c ∧ s.mem ((c : Thread nD τ).loc main_v1) = res e m c)
    (hY := fun c s' => by
      unfold leave
      iintro ⟨⟨Hu, Hx, Hv⟩, -, HSI⟩
      ihave H := (read_one _ _ s') $$ [Hx HSI]
      · isplitl [Hx] <;> iassumption
      icases H with ⟨%hx, HSI⟩
      ihave H := (read_one _ _ s') $$ [Hv HSI]
      · isplitl [Hv] <;> iassumption
      icases H with ⟨%hv, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hx, hv⟩
      iexact HSI)
    (hQ := fun _ h hs => ⟨fun c => ⟨(h c).2.2.2.2, (h c).2.2.2.1, ((h c).1 0).trans ((dats e m ρ 0 c).arrAt_in (0 : Fin 1) rfl _)⟩,
      sem_eq_zero hs fun c => (h c).2.2.1⟩)

end Cert.SwapProof

end
-- ==== Proof.Value.lean ====
/-
What the runs say of each other: the certificate's preconditions as permutations, the reference's rows as the sort and
the gather pick them, and the kernel's results as blocks of the reference's.
-/
module

public import proofs.«01_k».proof.Proof.Run
public import proofs.«01_k».proof.Proof.Gen.ReferenceIdeal.Run
public import proofs.«01_k».proof.Proof.Gen.ReferenceIdeal.Read
public import proofs.«01_k».proof.Proof.Gen.Pre_exchange_Kernel
public import proofs.«01_k».proof.Proof.Gen.Pre_identity_Kernel
public import Idealize.ShloMosaic.Lib.Layout

@[expose] public section

noncomputable section

namespace Cert.SwapProof

open Idealize.ShloMosaic Idealize.ShloMosaic.TcCoe Idealize.SL.Sem
open Cert.KernelIdeal (nD τ sig main_arg0 main_arg1 main_v1)

variable {F : FTy → Type} [FloatOps F] (e : Bool)

/-! ## The table, by mode -/

/-- Where the mode's permutation sends `k`. -/
def other (k : Fin 2) : Fin 2 := if e then k.rev else k

/-- The mode's table. -/
def table : IVec ⟨1, ![2]⟩ 32 := fun j => BitVec.ofNat 32 (other e (j 0)).val

theorem table_slot (c : Dev nD) : table e (slot c) = BitVec.ofNat 32 ((src e c).val / 2) := by
  revert c; cases e <;> decide

/-- If every device holds the mode's table, each one's word is that of `src`. -/
theorem tables_ok {m : (ℓ : Loc nD τ sig) → Buf (Elt F) ℓ} (h : ∀ c, tblOf m c = table e) : TableOK e m :=
  fun c => (congrFun (h c) _).trans (table_slot e c)

/-- An index of the table. -/
def at_ (k : Fin 2) : (⟨1, ![2]⟩ : Shape).Idx := fun a => ⟨k.val, by fin_cases a; exact k.isLt⟩

/-- A table whose two words are the mode's is the mode's table. -/
theorem table_ext {t : IVec ⟨1, ![2]⟩ 32} (h : ∀ k, t (at_ k) = BitVec.ofNat 32 (other e k).val) : t = table e :=
  funext fun j => by
    have hj : j = at_ (j 0) := funext fun a => by fin_cases a; rfl
    rw [hj]; exact h _

/-- Two comparisons that hold together give both equations. -/
theorem both_eq {a b u v : BitVec 32} (h : IntOp.andi (IntOp.cmpi .eq a b) (IntOp.cmpi .eq u v) = 1#1) : a = b ∧ u = v := by
  have split : ∀ p q : Bool, IntOp.andi (BitVec.ofBool p) (BitVec.ofBool q) = 1#1 → p = true ∧ q = true := by decide
  exact (split _ _ h).imp eq_of_beq eq_of_beq

/-- `exchange` says that the table is the exchange's; -/
theorem table_of_exchange (x : FVec F ⟨3, ![1, 2048, 1024]⟩ .f32) (t : IVec ⟨1, ![2]⟩ 32)
    (h : Cert.Pre_exchange_Kernel.fn (F := F) x t = fun _ => 1#1) : t = table true := by
  have h0 := congrFun h (fun a => a.elim0)
  rw [show Cert.Pre_exchange_Kernel.fn (F := F) x t (fun a => a.elim0)
      = IntOp.andi (IntOp.cmpi .eq (t (at_ 0)) 1#32) (IntOp.cmpi .eq (t (at_ 1)) 0#32) from by
        unfold Cert.Pre_exchange_Kernel.fn
        refine congrArg₂ (fun a b => IntOp.andi (IntOp.cmpi .eq (t a) 1#32) (IntOp.cmpi .eq (t b) 0#32)) ?_ ?_ <;>
          exact funext fun a => by fin_cases a; rfl] at h0
  exact table_ext true fun k => by fin_cases k; exacts [(both_eq h0).1, (both_eq h0).2]

/-- `identity`, that it is the identity's. -/
theorem table_of_identity (x : FVec F ⟨3, ![1, 2048, 1024]⟩ .f32) (t : IVec ⟨1, ![2]⟩ 32)
    (h : Cert.Pre_identity_Kernel.fn (F := F) x t = fun _ => 1#1) : t = table false := by
  have h0 := congrFun h (fun a => a.elim0)
  rw [show Cert.Pre_identity_Kernel.fn (F := F) x t (fun a => a.elim0)
      = IntOp.andi (IntOp.cmpi .eq (t (at_ 0)) 0#32) (IntOp.cmpi .eq (t (at_ 1)) 1#32) from by
        unfold Cert.Pre_identity_Kernel.fn
        refine congrArg₂ (fun a b => IntOp.andi (IntOp.cmpi .eq (t a) 0#32) (IntOp.cmpi .eq (t b) 1#32)) ?_ ?_ <;>
          exact funext fun a => by fin_cases a; rfl] at h0
  exact table_ext false fun k => by fin_cases k; exacts [(both_eq h0).1, (both_eq h0).2]

/-! ## The reference's rows -/

section Reference
open Cert.ReferenceIdeal Cert.ReferenceIdeal.Gen Cert.ReferenceIdeal.Read

/-- Sorting the mode's table leaves its indices in the mode's order: each of the two permutations is its own inverse. -/
theorem argsort_table : (Host.sort2 S2 0 comparator_i32_i32_d0 (table e) (iotaInDim S2 32 0)).2 = table e := by
  cases e <;> decide

/-- The indices that the reference gathers at. -/
theorem starts_table (i : S2x1.Idx) : val_main_v6 (F := F) (table e) i = BitVec.ofNat 32 (other e (i 0)).val := by
  have h0 : val_main_v0 (F := F) (table e) = table e := argsort_table e
  rw [val_main_v6_apply, val_main_v5_apply, val_main_v2_apply, val_main_v4_apply, val_main_v1_apply, val_main_v3_apply, h0]
  show Scalar.select (IntOp.cmpi .slt (BitVec.ofNat 32 (other e (i 0)).val) 0#32) (IntOp.addi (BitVec.ofNat 32 (other e (i 0)).val) 2#32)
    (BitVec.ofNat 32 (other e (i 0)).val) = _
  generalize other e (i 0) = k
  revert k; decide

/-- The element the reference's result holds at an index: row `other` of the argument, the same place in it. -/
def from_ (j : S2x2048x1024.Idx) : S2x2048x1024.Idx := Function.update j 0 (other e (j 0))

abbrev GD := gather_S2x2048x1024_S2x1_S2x2048x1024_12_0_n_n_0_1_120481024

theorem result_table (x : (⟨S2x2048x1024, .f32⟩ : BufTy).Contents (Elt F)) (j : S2x2048x1024.Idx) :
    val_main_v7 (F := F) x (table e) j = x (from_ e j) := by
  show x (GD.operandIdx j (val_main_v6 (F := F) (table e))) = _
  refine congrArg x (funext fun a => Fin.ext ?_)
  fin_cases a
  · show min (val_main_v6 (F := F) (table e) (GD.siIdx j ⟨0, _⟩)).toInt.toNat 1 + 0 + 0 = (other e (j 0)).val
    rw [starts_table, show GD.siIdx j ⟨0, by decide⟩ 0 = j 0 from rfl]
    generalize other e (j 0) = k
    revert k; decide
  · show 0 + 0 + (j 1).val = (j 1).val; omega
  · show 0 + 0 + (j 2).val = (j 2).val; omega

end Reference

/-! ## The kernel's results as the reference's blocks -/

/-- Device `c`'s block of a whole array. -/
abbrev blk (c : Dev nD) (v : (⟨3, ![2, 2048, 1024]⟩ : Shape).Idx → F .f32) : (⟨3, ![1, 2048, 1024]⟩ : Shape).Idx → F .f32 :=
  Layout.blockN ⟨3, ![1, 2048, 1024]⟩ ⟨3, ![2, 2048, 1024]⟩ (Layout.meshBlock [2, 2] ![[0], [], []] c) v

/-- A device's block coordinate along the cut axis is its group. -/
abbrev coord (c : Dev nD) : ℕ := (Layout.meshBlock [2, 2] (![[0], [], []] : Fin 3 → List ℕ) c (by decide) 0).val
theorem coord_eq (c : Dev nD) : coord c = c.val / 2 := by revert c; decide

theorem other_val (k : Fin 2) : (other e k).val = if e then 1 - k.val else k.val := by revert k; cases e <;> decide
theorem src_group (c : Dev nD) : (src e c).val / 2 = if e then 1 - c.val / 2 else c.val / 2 := by revert c; cases e <;> decide

/-- A device's block of the reference's result is the block of `src` of its argument. -/
theorem block_result (c : Dev nD) (x : (⟨3, ![2, 2048, 1024]⟩ : Shape).Idx → F .f32) :
    blk c (Cert.ReferenceIdeal.Read.val_main_v7 (F := F) x (table e)) = blk (src e c) x := by
  funext i
  show Cert.ReferenceIdeal.Read.val_main_v7 (F := F) x (table e) _ = _
  rw [result_table]
  refine congrArg x (funext fun a => Fin.ext ?_)
  have hi : (i 0).val = 0 := by have : (i 0).val < 1 := (i 0).isLt; omega
  fin_cases a
  · refine (other_val e _).trans ?_
    show (if e then 1 - (coord c * 1 + (i 0).val) else coord c * 1 + (i 0).val) = coord (src e c) * 1 + (i 0).val
    rw [coord_eq, coord_eq, src_group, hi]; simp
  · rfl
  · rfl

/-- In either mode, where every device holds the mode's table: the kernel ends with its arguments as they were and every
    counter at zero. -/
theorem ends (m : (ℓ : Loc nD τ sig) → Buf (Elt F) ℓ) (ρ : Dev nD → PrngReg) (ht : ∀ c, tblOf m c = table e) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono (fun _ h => ⟨fun c => (h.1 c).2, h.2⟩) (run_main e m ρ (tables_ok e ht))

/-- The reference ends with its arguments as they were; it has no counters. -/
theorem reference_ends (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := F) m ρ)

/-- In either mode, from memories where every device holds the mode's table and its block of the reference's argument:
    both programs end with their arguments as they were, and each device's result is its block of the reference's. -/
theorem agree (m : (ℓ : Loc nD τ sig) → Buf (Elt F) ℓ) (ρ : Dev nD → PrngReg)
    (m' : (ℓ : Loc Cert.ReferenceIdeal.nD Cert.ReferenceIdeal.τ Cert.ReferenceIdeal.sig) → Buf (Elt F) ℓ) (ρ' : Dev Cert.ReferenceIdeal.nD → PrngReg)
    (ht : ∀ c, tblOf m c = table e)
    (hin : ∀ c : Dev nD, m ((c.tc : Thread nD τ).loc main_arg0) = blk c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ v0 : Buf (Elt F) (((0 : Dev Cert.ReferenceIdeal.nD).tc : Thread Cert.ReferenceIdeal.nD Cert.ReferenceIdeal.τ).loc Cert.ReferenceIdeal.main_v7),
      θ_run (Cert.KernelIdeal.defs (F := F)) (onTc (τ := τ) (Cert.KernelIdeal.main (F := F))) ⟨m, fun _ => 0, ρ⟩ (fun r => ∀ c : Dev nD,
          r.2.mem ((c.tc : Thread nD τ).loc main_v1) = blk c v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := F)) (onTc (τ := Cert.ReferenceIdeal.τ) (Cert.ReferenceIdeal.main (F := F))) ⟨m', fun _ => 0, ρ'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have htab := (hin 0).2.symm.trans (ht 0)
  refine ⟨Cert.ReferenceIdeal.Read.val_main_v7 (F := F) (m' (((0 : Dev Cert.ReferenceIdeal.nD).tc : Thread Cert.ReferenceIdeal.nD Cert.ReferenceIdeal.τ).loc Cert.ReferenceIdeal.main_arg0)) (table e),
    (θ_run Cert.KernelIdeal.defs _ _).mono (fun r h c => ⟨(h.1 c).1.trans ?_, (h.1 c).2⟩) (run_main e m ρ (tables_ok e ht)),
    (θ_run Cert.ReferenceIdeal.defs _ _).mono (fun r h => ⟨(h 0).1.trans ?_, (h 0).2⟩) (Cert.ReferenceIdeal.Value.run (F := F) m' ρ')⟩
  · exact (hin (src e c)).1.trans (block_result e c _).symm
  · exact (Cert.ReferenceIdeal.Read.val_main_v7_eq (F := F) _ _).trans (congrArg (Cert.ReferenceIdeal.Read.val_main_v7 (F := F) _) htab)

end Cert.SwapProof

end
-- ==== Proof.Bridge.lean ====
/-
The kernel as printed at machine floats is, word for word, the kernel as printed for the ideal reading: the two body
tables are equal and so are the two entry functions, so a run of one is a run of the other.
-/
module

public import proofs.«01_k».proof.Proof.Value
public import proofs.«01_k».proof.Proof.Gen.Kernel

@[expose] public section

noncomputable section

namespace Cert.SwapProof

open Idealize.ShloMosaic Idealize.SL.Sem

/-- The one kernel function of the two programs. -/
theorem bodies_eq : Cert.Kernel.defs₀ (F := Bits) = Cert.KernelIdeal.defs₀ (F := Bits) := by
  funext p ℓ a
  obtain ⟨_ | n, h⟩ := ℓ
  · obtain ⟨t, s⟩ := a
    cases p <;> rfl
  · exact absurd h (by omega)

/-- The two body tables, with the launch's regions. -/
theorem defs_eq : Cert.Kernel.defs (F := Bits) = Cert.KernelIdeal.defs (F := Bits) :=
  congrArg (Idealize.ShloMosaic.Pipeline.defs (Cert.KernelIdeal.pcfgs (F := Bits))) bodies_eq

/-- A run of the one program is a run of the other. -/
theorem as_printed (σ : MemSt Cert.Kernel.nD Cert.Kernel.τ Cert.Kernel.sig (Elt Bits))
    (Q : PUnit × MemSt Cert.Kernel.nD Cert.Kernel.τ Cert.Kernel.sig (Elt Bits) → Prop)
    (h : θ_run (Cert.KernelIdeal.defs (F := Bits)) (onTc (τ := Cert.KernelIdeal.τ) (Cert.KernelIdeal.main (F := Bits))) σ Q) :
    θ_run (Cert.Kernel.defs (F := Bits)) (onTc (τ := Cert.Kernel.τ) (Cert.Kernel.main (F := Bits))) σ Q :=
  Eq.mpr (congrArg (fun d => θ_run d (onTc (τ := Cert.Kernel.τ) (Cert.Kernel.main (F := Bits))) σ Q) defs_eq) h

end Cert.SwapProof

end
-- ==== Proof.lean ====
/-
The certificate: the kernel runs, under each of the two permutations of the table, with nothing left pending and its
arguments as they were, at machine floats and at extended reals; the reference runs; and each device's result is its
block of the reference's, read as extended reals and bit for bit.
-/
module

public import proofs.«01_k».proof.Defs
public import proofs.«01_k».proof.Proof.Bridge
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_exchange_Kernel
public import proofs.«01_k».proof.Proof.Gen.Pre_identity_Kernel
public import proofs.«01_k».proof.Proof.Gen.Pre_exchange_ReferenceIdeal
public import proofs.«01_k».proof.Proof.Gen.Pre_identity_ReferenceIdeal
public import Idealize.ShloMosaic.Adequacy
public import Idealize.ShloMosaic.Init

@[expose] public section

noncomputable section

namespace Cert.Proof

open Idealize.ShloMosaic Idealize.SL.Sem Cert.Kernel

/-- Every claim of the certificate, in the order it states them. -/
theorem claim : Cert.Claim := ⟨Cert.Kernel.Gen.facts, Cert.KernelIdeal.Gen.facts, Cert.ReferenceIdeal.Gen.facts, Cert.Reference.Gen.facts, Cert.Pre_exchange_Kernel.Gen.facts, Cert.Pre_identity_Kernel.Gen.facts, Cert.Pre_exchange_ReferenceIdeal.Gen.facts, Cert.Pre_identity_ReferenceIdeal.Gen.facts,
  fun m g h => SwapProof.as_printed _ _ (SwapProof.ends (F := Bits) true m g fun c => SwapProof.table_of_exchange _ _ (h c)),
  fun m g h => SwapProof.as_printed _ _ (SwapProof.ends (F := Bits) false m g fun c => SwapProof.table_of_identity _ _ (h c)),
  fun m g h => SwapProof.ends (F := Ideal) true m g fun c => SwapProof.table_of_exchange _ _ (h c),
  fun m g h => SwapProof.ends (F := Ideal) false m g fun c => SwapProof.table_of_identity _ _ (h c),
  fun m g _ => SwapProof.reference_ends (F := Ideal) m g, fun m g _ => SwapProof.reference_ends (F := Ideal) m g,
  fun m g _ => SwapProof.reference_ends (F := Ideal) m g,
  fun m g _ => SwapProof.reference_ends (F := Bits) m g, fun m g _ => SwapProof.reference_ends (F := Bits) m g,
  trivial,
  fun m g m' g' h hin => SwapProof.agree (F := Ideal) true m g m' g' (fun c => SwapProof.table_of_exchange _ _ (h c)) hin,
  fun m g m' g' h hin => SwapProof.agree (F := Ideal) false m g m' g' (fun c => SwapProof.table_of_identity _ _ (h c)) hin,
  fun m g m' g' h hin => (SwapProof.agree (F := Bits) true m g m' g' (fun c => SwapProof.table_of_exchange _ _ (h c)) hin).imp
    fun _ r => ⟨SwapProof.as_printed _ _ r.1, r.2⟩,
  fun m g m' g' h hin => (SwapProof.agree (F := Bits) false m g m' g' (fun c => SwapProof.table_of_identity _ _ (h c)) hin).imp
    fun _ r => ⟨SwapProof.as_printed _ _ r.1, r.2⟩⟩

end Cert.Proof

end
